-- ==== Defs.lean ====
def Pre_Kernel [hPre_lists_fit : Cert.Pre_lists_fit.Facts] (m : (ℓ : Loc Cert.Kernel.nD Cert.Kernel.τ Cert.Kernel.sig) → Buf (Elt Bits) ℓ) : Prop :=
  ∀ c : Dev Cert.Kernel.nD,
    (Cert.Pre_lists_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_lists_fit : Cert.Pre_lists_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lists_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lists_fit [hPre_lists_fit : Cert.Pre_lists_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lists_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def quiescent_Kernel [hKernel : Cert.Kernel.Facts] [hPre_lists_fit : Cert.Pre_lists_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_lists_fit : Cert.Pre_lists_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_lists_fit [hReferenceIdeal : Cert.ReferenceIdeal.Facts] [hPre_lists_fit : Cert.Pre_lists_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lists_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def preserves_Kernel_KernelIdeal : Prop :=
  True

def preserves_Kernel2_Kernel2Ideal : Prop :=
  True

def algebraic_KernelIdeal_ReferenceIdeal [hKernelIdeal : Cert.KernelIdeal.Facts] [hReferenceIdeal : Cert.ReferenceIdeal.Facts] [hPre_lists_fit : Cert.Pre_lists_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hPre_lists_fit : Cert.Pre_lists_fit.Facts),
    quiescent_Kernel (hKernel := hKernel) (hPre_lists_fit := hPre_lists_fit)
    ∧ quiescent_KernelIdeal (hKernelIdeal := hKernelIdeal) (hPre_lists_fit := hPre_lists_fit)
    ∧ quiescent_ReferenceIdeal (hReferenceIdeal := hReferenceIdeal)
    ∧ quiescent_ReferenceIdeal_pre_lists_fit (hReferenceIdeal := hReferenceIdeal) (hPre_lists_fit := hPre_lists_fit)
    ∧ quiescent_Kernel2 (hKernel2 := hKernel2)
    ∧ quiescent_Kernel2Ideal (hKernel2Ideal := hKernel2Ideal)
    ∧ preserves_Kernel_KernelIdeal
    ∧ preserves_Kernel2_Kernel2Ideal
    ∧ algebraic_KernelIdeal_ReferenceIdeal (hKernelIdeal := hKernelIdeal) (hReferenceIdeal := hReferenceIdeal) (hPre_lists_fit := hPre_lists_fit)
-- ==== Pre_lists_fit.lean ====
abbrev S4 : Shape := ⟨1, ![4]⟩
abbrev S4x2304x16 : Shape := ⟨3, ![4, 2304, 16]⟩
abbrev S3x1 : Shape := ⟨2, ![3, 1]⟩
abbrev S4x2304x1 : Shape := ⟨3, ![4, 2304, 1]⟩
abbrev S4x2304 : Shape := ⟨2, ![4, 2304]⟩
abbrev S4x9x256 : Shape := ⟨3, ![4, 9, 256]⟩
abbrev S_ : Shape := ⟨0, ![]⟩
abbrev S4x1x1 : Shape := ⟨3, ![4, 1, 1]⟩

class Facts : Prop where
  slices_S4x2304x16_S4x2304x1_0_0_5 : S4x2304x16.Slices ![0, 0, 5] S4x2304x1
  shapeCasts_S4x2304x1_S4x2304 : S4x2304x1.ShapeCasts S4x2304
  shapeCasts_S4x2304_S4x9x256 : S4x2304.ShapeCasts S4x9x256
  bcast_S_S4x9x256 : S_.BroadcastsInDim S4x9x256 (![] : Fin 0 → Fin S4x9x256.rank)
  bcast_S4_S4x1x1_0 : S4.BroadcastsInDim S4x1x1 (![0] : Fin 1 → Fin S4x1x1.rank)
  bcast_S4x1x1_S4x9x256_0_1_2 : S4x1x1.BroadcastsInDim S4x9x256 (![0, 1, 2] : Fin 3 → Fin S4x9x256.rank)
  bcast_S_S4 : S_.BroadcastsInDim S4 (![] : Fin 0 → Fin S4.rank)
  reducesTo_S4_S_d0 : S4.ReducesTo [0] S_
  h_S_ : 0 < S_.numel
  reducesTo_S4x9x256_S_d0_1_2 : S4x9x256.ReducesTo [0, 1, 2] S_

variable [Facts]

def fn_part1 {F : FTy → Type} [FloatOps F] (main_arg0 : IVec S4 32) (main_v16 : IVec S4x9x256 1) (main_v18 : IVec S4 1) (main_v19 : IVec S4 32) : IVec S_ 1 :=
  let main_v20 : IVec S4 1 := cmpi .sle main_arg0 main_v19
  let main_v21 : IVec S4 1 := andi main_v18 main_v20
  let main_c_2 : IVec S_ 1 := constantI S_ 1 1#1
  let main_v22 : IVec S_ 1 := (fun x v => Host.reduce IntOp.andi x v reducesTo_S4_S_d0 h_S_) main_v21 main_c_2
  let main_c_3 : IVec S_ 1 := constantI S_ 1 1#1
  let main_v23 : IVec S_ 1 := (fun x v => Host.reduce IntOp.andi x v reducesTo_S4x9x256_S_d0_1_2 h_S_) main_v16 main_c_3
  let main_v24 : IVec S_ 1 := andi main_v22 main_v23
  main_v24

def fn {F : FTy → Type} [FloatOps F] (main_arg0 : IVec S4 32) (main_arg1 : FVec F S4x2304x16 .f32) (main_arg2 : FVec F S3x1 .f32) : IVec S_ 1 :=
  let main_v0 : FVec F S4x2304x1 .f32 := (extractStridedSlice S4x2304x1 ![0, 0, 5] · slices_S4x2304x16_S4x2304x1_0_0_5) main_arg1
  let main_v1 : FVec F S4x2304 .f32 := shapeCast S4x2304 main_v0 shapeCasts_S4x2304x1_S4x2304
  let main_v2 : FVec F S4x9x256 .f32 := shapeCast S4x9x256 main_v1 shapeCasts_S4x2304_S4x9x256
  let main_v3 : IVec S4x9x256 32 := iotaInDim S4x9x256 32 1
  let main_c : IVec S_ 32 := constantI S_ 32 256#32
  let main_v4 : IVec S4x9x256 32 := broadcastInDim S4x9x256 ![] bcast_S_S4x9x256 main_c
  let main_v5 : IVec S4x9x256 32 := muli main_v4 main_v3
  let main_v6 : IVec S4x9x256 32 := iotaInDim S4x9x256 32 2
  let main_v7 : IVec S4x9x256 32 := addi main_v5 main_v6
  let main_v8 : IVec S4x1x1 32 := broadcastInDim S4x1x1 ![0] bcast_S4_S4x1x1_0 main_arg0
  let main_v9 : IVec S4x9x256 32 := broadcastInDim S4x9x256 ![0, 1, 2] bcast_S4x1x1_S4x9x256_0_1_2 main_v8
  let main_v10 : IVec S4x9x256 1 := cmpi .slt main_v7 main_v9
  let main_v11 : IVec S4x9x256 32 := broadcastInDim S4x9x256 ![0, 1, 2] bcast_S4x1x1_S4x9x256_0_1_2 main_v8
  let main_v12 : IVec S4x9x256 1 := cmpi .sge main_v5 main_v11
  let main_v13 : IVec S4x9x256 1 := ori main_v10 main_v12
  let main_cst : FVec F S_ .f32 := constant S_ .f32 0x00000000#32
  let main_v14 : FVec F S4x9x256 .f32 := broadcastInDim S4x9x256 ![] bcast_S_S4x9x256 main_cst
  let main_v15 : IVec S4x9x256 1 := cmpf .oeq main_v2 main_v14
  let main_v16 : IVec S4x9x256 1 := ori main_v13 main_v15
  let main_c_0 : IVec S_ 32 := constantI S_ 32 0#32
  let main_v17 : IVec S4 32 := broadcastInDim S4 ![] bcast_S_S4 main_c_0
  let main_v18 : IVec S4 1 := cmpi .sge main_arg0 main_v17
  let main_c_1 : IVec S_ 32 := constantI S_ 32 2304#32
  let main_v19 : IVec S4 32 := broadcastInDim S4 ![] bcast_S_S4 main_c_1
  fn_part1 (F := F) main_arg0 main_v16 main_v18 main_v19
-- ==== Kernel.lean ====
abbrev S4 : Shape := ⟨1, ![4]⟩
abbrev S4x2304x16 : Shape := ⟨3, ![4, 2304, 16]⟩
abbrev S3x1 : Shape := ⟨2, ![3, 1]⟩
abbrev S3x9216 : Shape := ⟨2, ![3, 9216]⟩
abbrev S1x2304x16 : Shape := ⟨3, ![1, 2304, 16]⟩
abbrev S3x2304 : Shape := ⟨2, ![3, 2304]⟩
abbrev S1x2304 : Shape := ⟨2, ![1, 2304]⟩
abbrev S256x256 : Shape := ⟨2, ![256, 256]⟩
abbrev S1 : Shape := ⟨1, ![1]⟩
abbrev S1x256x1 : Shape := ⟨3, ![1, 256, 1]⟩
abbrev S256x1 : Shape := ⟨2, ![256, 1]⟩
abbrev S1x256x3 : Shape := ⟨3, ![1, 256, 3]⟩
abbrev S256x3 : Shape := ⟨2, ![256, 3]⟩
abbrev S256x2304 : Shape := ⟨2, ![256, 2304]⟩

abbrev nBuf : Space → Nat
  | .hbm => 3
  | .vmem => 5
  | .smem => 1
  | _ => 0

abbrev bufTy : (tb : Table) → Fin (tcTables nBuf tb) → BufTy
  | .hbm, ⟨0, _⟩ => ⟨S4x2304x16, .f32⟩
  | .hbm, ⟨1, _⟩ => ⟨S3x1, .f32⟩
  | .hbm, ⟨2, _⟩ => ⟨S3x9216, .f32⟩
  | .local _ .vmem, ⟨0, _⟩ => ⟨S1x2304x16, .f32⟩
  | .local _ .vmem, ⟨1, _⟩ => ⟨S1x2304x16, .f32⟩
  | .local _ .vmem, ⟨2, _⟩ => ⟨S3x1, .f32⟩
  | .local _ .vmem, ⟨3, _⟩ => ⟨S3x2304, .f32⟩
  | .local _ .vmem, ⟨4, _⟩ => ⟨S3x2304, .f32⟩
  | .local _ .smem, ⟨0, _⟩ => ⟨S4, .i32⟩
  | _, _ => ⟨S4x2304x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v51 : Index := Scalar.indexCast arg0
  ![v51.toNat]
@[reducible] def k0_t1_loop (v52 : BitVec 32) : Scf.Loop 32 :=
  let c0_i32_11 : BitVec 32 := 0#32
  let c255_i32 : BitVec 32 := 255#32
  let v53 : BitVec 32 := Scalar.addi v52 c255_i32
  let c256_i32 : BitVec 32 := 256#32
  let v54 : BitVec 32 := Scalar.divsi v53 c256_i32
  let v57 : BitVec 32 := Scalar.subi v54 c0_i32_11
  let c1_i32_12 : BitVec 32 := 1#32
  let v59 : BitVec 32 := Scalar.divsi v57 c1_i32_12
  let v60 : BitVec 32 := Scalar.muli v59 c1_i32_12
  let v61 : BitVec 32 := Scalar.addi c0_i32_11 v60
  let c1_i32_13 : BitVec 32 := 1#32
  ⟨c0_i32_11, v61, c1_i32_13⟩

def k0_mult1 (v52 : BitVec 32) (k0_t1 : Fin (k0_t1_loop v52).trips) : BitVec 32 :=
  let c0_i32_11 : BitVec 32 := 0#32
  let c1_i32_13 : BitVec 32 := 1#32
  let arg5 : BitVec 32 := Scf.iv c0_i32_11 c1_i32_13 k0_t1
  let c256_i32_18 : BitVec 32 := 256#32
  let v71 : BitVec 32 := Scalar.muli arg5 c256_i32_18
  v71
def k0_off2 (v52 : BitVec 32) (k0_t1 : Fin (k0_t1_loop v52).trips) : Fin 3 → Nat :=
  let c0_19 : Index := 0#32
  let c0_i32_11 : BitVec 32 := 0#32
  let c1_i32_13 : BitVec 32 := 1#32
  let arg5 : BitVec 32 := Scf.iv c0_i32_11 c1_i32_13 k0_t1
  let c256_i32_18 : BitVec 32 := 256#32
  let v71 : BitVec 32 := Scalar.muli arg5 c256_i32_18
  let v72 : BitVec 32 := v71
  let v73 : Index := Scalar.indexCast v72
  let c0_20 : Index := 0#32
  ![0, v73.toNat, 0]
def k0_off3 (v52 : BitVec 32) (k0_t1 : Fin (k0_t1_loop v52).trips) : Fin 3 → Nat :=
  let c0_21 : Index := 0#32
  let c0_i32_11 : BitVec 32 := 0#32
  let c1_i32_13 : BitVec 32 := 1#32
  let arg5 : BitVec 32 := Scf.iv c0_i32_11 c1_i32_13 k0_t1
  let c256_i32_18 : BitVec 32 := 256#32
  let v71 : BitVec 32 := Scalar.muli arg5 c256_i32_18
  let v72 : BitVec 32 := v71
  let v76 : Index := Scalar.indexCast v72
  let c1 : Index := 1#32
  ![0, v76.toNat, 1]
def k0_off4 (v52 : BitVec 32) (k0_t1 : Fin (k0_t1_loop v52).trips) : Fin 3 → Nat :=
  let c0_22 : Index := 0#32
  let c0_i32_11 : BitVec 32 := 0#32
  let c1_i32_13 : BitVec 32 := 1#32
  let arg5 : BitVec 32 := Scf.iv c0_i32_11 c1_i32_13 k0_t1
  let c256_i32_18 : BitVec 32 := 256#32
  let v71 : BitVec 32 := Scalar.muli arg5 c256_i32_18
  let v72 : BitVec 32 := v71
  let v79 : Index := Scalar.indexCast v72
  let c2 : Index := 2#32
  ![0, v79.toNat, 2]
def k0_off5 (v52 : BitVec 32) (k0_t1 : Fin (k0_t1_loop v52).trips) : Fin 3 → Nat :=
  let c0_23 : Index := 0#32
  let c0_i32_11 : BitVec 32 := 0#32
  let c1_i32_13 : BitVec 32 := 1#32
  let arg5 : BitVec 32 := Scf.iv c0_i32_11 c1_i32_13 k0_t1
  let c256_i32_18 : BitVec 32 := 256#32
  let v71 : BitVec 32 := Scalar.muli arg5 c256_i32_18
  let v72 : BitVec 32 := v71
  let v82 : Index := Scalar.indexCast v72
  let c3 : Index := 3#32
  ![0, v82.toNat, 3]
def k0_off6 (v52 : BitVec 32) (k0_t1 : Fin (k0_t1_loop v52).trips) : Fin 3 → Nat :=
  let c0_24 : Index := 0#32
  let c0_i32_11 : BitVec 32 := 0#32
  let c1_i32_13 : BitVec 32 := 1#32
  let arg5 : BitVec 32 := Scf.iv c0_i32_11 c1_i32_13 k0_t1
  let c256_i32_18 : BitVec 32 := 256#32
  let v71 : BitVec 32 := Scalar.muli arg5 c256_i32_18
  let v72 : BitVec 32 := v71
  let v85 : Index := Scalar.indexCast v72
  let c4 : Index := 4#32
  ![0, v85.toNat, 4]
def k0_off7 (v52 : BitVec 32) (k0_t1 : Fin (k0_t1_loop v52).trips) : Fin 3 → Nat :=
  let c0_25 : Index := 0#32
  let c0_i32_11 : BitVec 32 := 0#32
  let c1_i32_13 : BitVec 32 := 1#32
  let arg5 : BitVec 32 := Scf.iv c0_i32_11 c1_i32_13 k0_t1
  let c256_i32_18 : BitVec 32 := 256#32
  let v71 : BitVec 32 := Scalar.muli arg5 c256_i32_18
  let v72 : BitVec 32 := v71
  let v88 : Index := Scalar.indexCast v72
  let c5 : Index := 5#32
  ![0, v88.toNat, 5]
def k0_off8 (v52 : BitVec 32) (k0_t1 : Fin (k0_t1_loop v52).trips) : Fin 3 → Nat :=
  let c0_26 : Index := 0#32
  let c0_i32_11 : BitVec 32 := 0#32
  let c1_i32_13 : BitVec 32 := 1#32
  let arg5 : BitVec 32 := Scf.iv c0_i32_11 c1_i32_13 k0_t1
  let c256_i32_18 : BitVec 32 := 256#32
  let v71 : BitVec 32 := Scalar.muli arg5 c256_i32_18
  let v72 : BitVec 32 := v71
  let v91 : Index := Scalar.indexCast v72
  let c6 : Index := 6#32
  ![0, v91.toNat, 6]
@[reducible] def k0_t2_loop (v52 : BitVec 32) : Scf.Loop 32 :=
  let c0_i32_11 : BitVec 32 := 0#32
  let c255_i32 : BitVec 32 := 255#32
  let v53 : BitVec 32 := Scalar.addi v52 c255_i32
  let c256_i32 : BitVec 32 := 256#32
  let v54 : BitVec 32 := Scalar.divsi v53 c256_i32
  let v57 : BitVec 32 := Scalar.subi v54 c0_i32_11
  let c1_i32_12 : BitVec 32 := 1#32
  let v59 : BitVec 32 := Scalar.divsi v57 c1_i32_12
  let v60 : BitVec 32 := Scalar.muli v59 c1_i32_12
  let v61 : BitVec 32 := Scalar.addi c0_i32_11 v60
  let v58 : BitVec 32 := Scalar.addi c0_i32_11 v57
  let c1_i32_14 : BitVec 32 := 1#32
  ⟨v61, v58, c1_i32_14⟩
def k0_mult2 (v52 : BitVec 32) (k0_t2 : Fin (k0_t2_loop v52).trips) : BitVec 32 :=
  let c0_i32_11 : BitVec 32 := 0#32
  let c255_i32 : BitVec 32 := 255#32
  let v53 : BitVec 32 := Scalar.addi v52 c255_i32
  let c256_i32 : BitVec 32 := 256#32
  let v54 : BitVec 32 := Scalar.divsi v53 c256_i32
  let v57 : BitVec 32 := Scalar.subi v54 c0_i32_11
  let c1_i32_12 : BitVec 32 := 1#32
  let v59 : BitVec 32 := Scalar.divsi v57 c1_i32_12
  let v60 : BitVec 32 := Scalar.muli v59 c1_i32_12
  let v61 : BitVec 32 := Scalar.addi c0_i32_11 v60
  let c1_i32_14 : BitVec 32 := 1#32
  let arg5 : BitVec 32 := Scf.iv v61 c1_i32_14 k0_t2
  let c256_i32_18 : BitVec 32 := 256#32
  let v71 : BitVec 32 := Scalar.muli arg5 c256_i32_18
  v71
def k0_off9 (v52 : BitVec 32) (k0_t2 : Fin (k0_t2_loop v52).trips) : Fin 3 → Nat :=
  let c0_19 : Index := 0#32
  let c0_i32_11 : BitVec 32 := 0#32
  let c255_i32 : BitVec 32 := 255#32
  let v53 : BitVec 32 := Scalar.addi v52 c255_i32
  let c256_i32 : BitVec 32 := 256#32
  let v54 : BitVec 32 := Scalar.divsi v53 c256_i32
  let v57 : BitVec 32 := Scalar.subi v54 c0_i32_11
  let c1_i32_12 : BitVec 32 := 1#32
  let v59 : BitVec 32 := Scalar.divsi v57 c1_i32_12
  let v60 : BitVec 32 := Scalar.muli v59 c1_i32_12
  let v61 : BitVec 32 := Scalar.addi c0_i32_11 v60
  let c1_i32_14 : BitVec 32 := 1#32
  let arg5 : BitVec 32 := Scf.iv v61 c1_i32_14 k0_t2
  let c256_i32_18 : BitVec 32 := 256#32
  let v71 : BitVec 32 := Scalar.muli arg5 c256_i32_18
  let v72 : BitVec 32 := v71
  let v73 : Index := Scalar.indexCast v72
  let c0_20 : Index := 0#32
  ![0, v73.toNat, 0]
def k0_off10 (v52 : BitVec 32) (k0_t2 : Fin (k0_t2_loop v52).trips) : Fin 3 → Nat :=
  let c0_21 : Index := 0#32
  let c0_i32_11 : BitVec 32 := 0#32
  let c255_i32 : BitVec 32 := 255#32
  let v53 : BitVec 32 := Scalar.addi v52 c255_i32
  let c256_i32 : BitVec 32 := 256#32
  let v54 : BitVec 32 := Scalar.divsi v53 c256_i32
  let v57 : BitVec 32 := Scalar.subi v54 c0_i32_11
  let c1_i32_12 : BitVec 32 := 1#32
  let v59 : BitVec 32 := Scalar.divsi v57 c1_i32_12
  let v60 : BitVec 32 := Scalar.muli v59 c1_i32_12
  let v61 : BitVec 32 := Scalar.addi c0_i32_11 v60
  let c1_i32_14 : BitVec 32 := 1#32
  let arg5 : BitVec 32 := Scf.iv v61 c1_i32_14 k0_t2
  let c256_i32_18 : BitVec 32 := 256#32
  let v71 : BitVec 32 := Scalar.muli arg5 c256_i32_18
  let v72 : BitVec 32 := v71
  let v76 : Index := Scalar.indexCast v72
  let c1 : Index := 1#32
  ![0, v76.toNat, 1]
def k0_off11 (v52 : BitVec 32) (k0_t2 : Fin (k0_t2_loop v52).trips) : Fin 3 → Nat :=
  let c0_22 : Index := 0#32
  let c0_i32_11 : BitVec 32 := 0#32
  let c255_i32 : BitVec 32 := 255#32
  let v53 : BitVec 32 := Scalar.addi v52 c255_i32
  let c256_i32 : BitVec 32 := 256#32
  let v54 : BitVec 32 := Scalar.divsi v53 c256_i32
  let v57 : BitVec 32 := Scalar.subi v54 c0_i32_11
  let c1_i32_12 : BitVec 32 := 1#32
  let v59 : BitVec 32 := Scalar.divsi v57 c1_i32_12
  let v60 : BitVec 32 := Scalar.muli v59 c1_i32_12
  let v61 : BitVec 32 := Scalar.addi c0_i32_11 v60
  let c1_i32_14 : BitVec 32 := 1#32
  let arg5 : BitVec 32 := Scf.iv v61 c1_i32_14 k0_t2
  let c256_i32_18 : BitVec 32 := 256#32
  let v71 : BitVec 32 := Scalar.muli arg5 c256_i32_18
  let v72 : BitVec 32 := v71
  let v79 : Index := Scalar.indexCast v72
  let c2 : Index := 2#32
  ![0, v79.toNat, 2]
def k0_off12 (v52 : BitVec 32) (k0_t2 : Fin (k0_t2_loop v52).trips) : Fin 3 → Nat :=
  let c0_23 : Index := 0#32
  let c0_i32_11 : BitVec 32 := 0#32
  let c255_i32 : BitVec 32 := 255#32
  let v53 : BitVec 32 := Scalar.addi v52 c255_i32
  let c256_i32 : BitVec 32 := 256#32
  let v54 : BitVec 32 := Scalar.divsi v53 c256_i32
  let v57 : BitVec 32 := Scalar.subi v54 c0_i32_11
  let c1_i32_12 : BitVec 32 := 1#32
  let v59 : BitVec 32 := Scalar.divsi v57 c1_i32_12
  let v60 : BitVec 32 := Scalar.muli v59 c1_i32_12
  let v61 : BitVec 32 := Scalar.addi c0_i32_11 v60
  let c1_i32_14 : BitVec 32 := 1#32
  let arg5 : BitVec 32 := Scf.iv v61 c1_i32_14 k0_t2
  let c256_i32_18 : BitVec 32 := 256#32
  let v71 : BitVec 32 := Scalar.muli arg5 c256_i32_18
  let v72 : BitVec 32 := v71
  let v82 : Index := Scalar.indexCast v72
  let c3 : Index := 3#32
  ![0, v82.toNat, 3]
def k0_off13 (v52 : BitVec 32) (k0_t2 : Fin (k0_t2_loop v52).trips) : Fin 3 → Nat :=
  let c0_24 : Index := 0#32
  let c0_i32_11 : BitVec 32 := 0#32
  let c255_i32 : BitVec 32 := 255#32
  let v53 : BitVec 32 := Scalar.addi v52 c255_i32
  let c256_i32 : BitVec 32 := 256#32
  let v54 : BitVec 32 := Scalar.divsi v53 c256_i32
  let v57 : BitVec 32 := Scalar.subi v54 c0_i32_11
  let c1_i32_12 : BitVec 32 := 1#32
  let v59 : BitVec 32 := Scalar.divsi v57 c1_i32_12
  let v60 : BitVec 32 := Scalar.muli v59 c1_i32_12
  let v61 : BitVec 32 := Scalar.addi c0_i32_11 v60
  let c1_i32_14 : BitVec 32 := 1#32
  let arg5 : BitVec 32 := Scf.iv v61 c1_i32_14 k0_t2
  let c256_i32_18 : BitVec 32 := 256#32
  let v71 : BitVec 32 := Scalar.muli arg5 c256_i32_18
  let v72 : BitVec 32 := v71
  let v85 : Index := Scalar.indexCast v72
  let c4 : Index := 4#32
  ![0, v85.toNat, 4]
def k0_off14 (v52 : BitVec 32) (k0_t2 : Fin (k0_t2_loop v52).trips) : Fin 3 → Nat :=
  let c0_25 : Index := 0#32
  let c0_i32_11 : BitVec 32 := 0#32
  let c255_i32 : BitVec 32 := 255#32
  let v53 : BitVec 32 := Scalar.addi v52 c255_i32
  let c256_i32 : BitVec 32 := 256#32
  let v54 : BitVec 32 := Scalar.divsi v53 c256_i32
  let v57 : BitVec 32 := Scalar.subi v54 c0_i32_11
  let c1_i32_12 : BitVec 32 := 1#32
  let v59 : BitVec 32 := Scalar.divsi v57 c1_i32_12
  let v60 : BitVec 32 := Scalar.muli v59 c1_i32_12
  let v61 : BitVec 32 := Scalar.addi c0_i32_11 v60
  let c1_i32_14 : BitVec 32 := 1#32
  let arg5 : BitVec 32 := Scf.iv v61 c1_i32_14 k0_t2
  let c256_i32_18 : BitVec 32 := 256#32
  let v71 : BitVec 32 := Scalar.muli arg5 c256_i32_18
  let v72 : BitVec 32 := v71
  let v88 : Index := Scalar.indexCast v72
  let c5 : Index := 5#32
  ![0, v88.toNat, 5]
def k0_off15 (v52 : BitVec 32) (k0_t2 : Fin (k0_t2_loop v52).trips) : Fin 3 → Nat :=
  let c0_26 : Index := 0#32
  let c0_i32_11 : BitVec 32 := 0#32
  let c255_i32 : BitVec 32 := 255#32
  let v53 : BitVec 32 := Scalar.addi v52 c255_i32
  let c256_i32 : BitVec 32 := 256#32
  let v54 : BitVec 32 := Scalar.divsi v53 c256_i32
  let v57 : BitVec 32 := Scalar.subi v54 c0_i32_11
  let c1_i32_12 : BitVec 32 := 1#32
  let v59 : BitVec 32 := Scalar.divsi v57 c1_i32_12
  let v60 : BitVec 32 := Scalar.muli v59 c1_i32_12
  let v61 : BitVec 32 := Scalar.addi c0_i32_11 v60
  let c1_i32_14 : BitVec 32 := 1#32
  let arg5 : BitVec 32 := Scf.iv v61 c1_i32_14 k0_t2
  let c256_i32_18 : BitVec 32 := 256#32
  let v71 : BitVec 32 := Scalar.muli arg5 c256_i32_18
  let v72 : BitVec 32 := v71
  let v91 : Index := Scalar.indexCast v72
  let c6 : Index := 6#32
  ![0, v91.toNat, 6]

def k0_chk1 (v52 : BitVec 32) : Prop :=
  ((k0_t1_loop v52).OK) ∧
  (∀ k0_t1 : Fin (k0_t1_loop v52).trips, 256 ∣ (k0_mult1 v52 k0_t1).toNat) ∧
  (∀ k0_t1 : Fin (k0_t1_loop v52).trips, ∀ a, (k0_off2 v52 k0_t1) a + S1x256x1.size a ≤ S1x2304x16.size a) ∧
  (∀ k0_t1 : Fin (k0_t1_loop v52).trips, ∀ a, (k0_off3 v52 k0_t1) a + S1x256x1.size a ≤ S1x2304x16.size a) ∧
  (∀ k0_t1 : Fin (k0_t1_loop v52).trips, ∀ a, (k0_off4 v52 k0_t1) a + S1x256x1.size a ≤ S1x2304x16.size a) ∧
  (∀ k0_t1 : Fin (k0_t1_loop v52).trips, ∀ a, (k0_off5 v52 k0_t1) a + S1x256x1.size a ≤ S1x2304x16.size a) ∧
  (∀ k0_t1 : Fin (k0_t1_loop v52).trips, ∀ a, (k0_off6 v52 k0_t1) a + S1x256x1.size a ≤ S1x2304x16.size a) ∧
  (∀ k0_t1 : Fin (k0_t1_loop v52).trips, ∀ a, (k0_off7 v52 k0_t1) a + S1x256x1.size a ≤ S1x2304x16.size a) ∧
  (∀ k0_t1 : Fin (k0_t1_loop v52).trips, ∀ a, (k0_off8 v52 k0_t1) a + S1x256x3.size a ≤ S1x2304x16.size a) ∧
  ((k0_t2_loop v52).OK) ∧
  (∀ k0_t2 : Fin (k0_t2_loop v52).trips, 256 ∣ (k0_mult2 v52 k0_t2).toNat) ∧
  (∀ k0_t2 : Fin (k0_t2_loop v52).trips, ∀ a, (k0_off9 v52 k0_t2) a + S1x256x1.size a ≤ S1x2304x16.size a) ∧
  (∀ k0_t2 : Fin (k0_t2_loop v52).trips, ∀ a, (k0_off10 v52 k0_t2) a + S1x256x1.size a ≤ S1x2304x16.size a) ∧
  (∀ k0_t2 : Fin (k0_t2_loop v52).trips, ∀ a, (k0_off11 v52 k0_t2) a + S1x256x1.size a ≤ S1x2304x16.size a) ∧
  (∀ k0_t2 : Fin (k0_t2_loop v52).trips, ∀ a, (k0_off12 v52 k0_t2) a + S1x256x1.size a ≤ S1x2304x16.size a) ∧
  (∀ k0_t2 : Fin (k0_t2_loop v52).trips, ∀ a, (k0_off13 v52 k0_t2) a + S1x256x1.size a ≤ S1x2304x16.size a) ∧
  (∀ k0_t2 : Fin (k0_t2_loop v52).trips, ∀ a, (k0_off14 v52 k0_t2) a + S1x256x1.size a ≤ S1x2304x16.size a) ∧
  (∀ k0_t2 : Fin (k0_t2_loop v52).trips, ∀ a, (k0_off15 v52 k0_t2) a + S1x256x3.size a ≤ S1x2304x16.size a)
theorem k0_t1_ok : ∀ (v52 : BitVec 32) (k0_hw1 : k0_chk1 v52), (k0_t1_loop v52).OK := fun v52 k0_hw1 => k0_hw1.1
theorem k0_mult1_dvd : ∀ (v52 : BitVec 32) (k0_hw1 : k0_chk1 v52) (k0_t1 : Fin (k0_t1_loop v52).trips), 256 ∣ (k0_mult1 v52 k0_t1).toNat := fun v52 k0_hw1 k0_t1 => k0_hw1.2.1 k0_t1
theorem k0_off2_inb : ∀ (v52 : BitVec 32) (k0_hw1 : k0_chk1 v52) (k0_t1 : Fin (k0_t1_loop v52).trips), ∀ a, (k0_off2 v52 k0_t1) a + S1x256x1.size a ≤ S1x2304x16.size a := fun v52 k0_hw1 k0_t1 => k0_hw1.2.2.1 k0_t1
theorem k0_off3_inb : ∀ (v52 : BitVec 32) (k0_hw1 : k0_chk1 v52) (k0_t1 : Fin (k0_t1_loop v52).trips), ∀ a, (k0_off3 v52 k0_t1) a + S1x256x1.size a ≤ S1x2304x16.size a := fun v52 k0_hw1 k0_t1 => k0_hw1.2.2.2.1 k0_t1
theorem k0_off4_inb : ∀ (v52 : BitVec 32) (k0_hw1 : k0_chk1 v52) (k0_t1 : Fin (k0_t1_loop v52).trips), ∀ a, (k0_off4 v52 k0_t1) a + S1x256x1.size a ≤ S1x2304x16.size a := fun v52 k0_hw1 k0_t1 => k0_hw1.2.2.2.2.1 k0_t1
theorem k0_off5_inb : ∀ (v52 : BitVec 32) (k0_hw1 : k0_chk1 v52) (k0_t1 : Fin (k0_t1_loop v52).trips), ∀ a, (k0_off5 v52 k0_t1) a + S1x256x1.size a ≤ S1x2304x16.size a := fun v52 k0_hw1 k0_t1 => k0_hw1.2.2.2.2.2.1 k0_t1
theorem k0_off6_inb : ∀ (v52 : BitVec 32) (k0_hw1 : k0_chk1 v52) (k0_t1 : Fin (k0_t1_loop v52).trips), ∀ a, (k0_off6 v52 k0_t1) a + S1x256x1.size a ≤ S1x2304x16.size a := fun v52 k0_hw1 k0_t1 => k0_hw1.2.2.2.2.2.2.1 k0_t1
theorem k0_off7_inb : ∀ (v52 : BitVec 32) (k0_hw1 : k0_chk1 v52) (k0_t1 : Fin (k0_t1_loop v52).trips), ∀ a, (k0_off7 v52 k0_t1) a + S1x256x1.size a ≤ S1x2304x16.size a := fun v52 k0_hw1 k0_t1 => k0_hw1.2.2.2.2.2.2.2.1 k0_t1
theorem k0_off8_inb : ∀ (v52 : BitVec 32) (k0_hw1 : k0_chk1 v52) (k0_t1 : Fin (k0_t1_loop v52).trips), ∀ a, (k0_off8 v52 k0_t1) a + S1x256x3.size a ≤ S1x2304x16.size a := fun v52 k0_hw1 k0_t1 => k0_hw1.2.2.2.2.2.2.2.2.1 k0_t1
theorem k0_t2_ok : ∀ (v52 : BitVec 32) (k0_hw1 : k0_chk1 v52), (k0_t2_loop v52).OK := fun v52 k0_hw1 => k0_hw1.2.2.2.2.2.2.2.2.2.1
theorem k0_mult2_dvd : ∀ (v52 : BitVec 32) (k0_hw1 : k0_chk1 v52) (k0_t2 : Fin (k0_t2_loop v52).trips), 256 ∣ (k0_mult2 v52 k0_t2).toNat := fun v52 k0_hw1 k0_t2 => k0_hw1.2.2.2.2.2.2.2.2.2.2.1 k0_t2
theorem k0_off9_inb : ∀ (v52 : BitVec 32) (k0_hw1 : k0_chk1 v52) (k0_t2 : Fin (k0_t2_loop v52).trips), ∀ a, (k0_off9 v52 k0_t2) a + S1x256x1.size a ≤ S1x2304x16.size a := fun v52 k0_hw1 k0_t2 => k0_hw1.2.2.2.2.2.2.2.2.2.2.2.1 k0_t2
theorem k0_off10_inb : ∀ (v52 : BitVec 32) (k0_hw1 : k0_chk1 v52) (k0_t2 : Fin (k0_t2_loop v52).trips), ∀ a, (k0_off10 v52 k0_t2) a + S1x256x1.size a ≤ S1x2304x16.size a := fun v52 k0_hw1 k0_t2 => k0_hw1.2.2.2.2.2.2.2.2.2.2.2.2.1 k0_t2
theorem k0_off11_inb : ∀ (v52 : BitVec 32) (k0_hw1 : k0_chk1 v52) (k0_t2 : Fin (k0_t2_loop v52).trips), ∀ a, (k0_off11 v52 k0_t2) a + S1x256x1.size a ≤ S1x2304x16.size a := fun v52 k0_hw1 k0_t2 => k0_hw1.2.2.2.2.2.2.2.2.2.2.2.2.2.1 k0_t2
theorem k0_off12_inb : ∀ (v52 : BitVec 32) (k0_hw1 : k0_chk1 v52) (k0_t2 : Fin (k0_t2_loop v52).trips), ∀ a, (k0_off12 v52 k0_t2) a + S1x256x1.size a ≤ S1x2304x16.size a := fun v52 k0_hw1 k0_t2 => k0_hw1.2.2.2.2.2.2.2.2.2.2.2.2.2.2.1 k0_t2
theorem k0_off13_inb : ∀ (v52 : BitVec 32) (k0_hw1 : k0_chk1 v52) (k0_t2 : Fin (k0_t2_loop v52).trips), ∀ a, (k0_off13 v52 k0_t2) a + S1x256x1.size a ≤ S1x2304x16.size a := fun v52 k0_hw1 k0_t2 => k0_hw1.2.2.2.2.2.2.2.2.2.2.2.2.2.2.2.1 k0_t2
theorem k0_off14_inb : ∀ (v52 : BitVec 32) (k0_hw1 : k0_chk1 v52) (k0_t2 : Fin (k0_t2_loop v52).trips), ∀ a, (k0_off14 v52 k0_t2) a + S1x256x1.size a ≤ S1x2304x16.size a := fun v52 k0_hw1 k0_t2 => k0_hw1.2.2.2.2.2.2.2.2.2.2.2.2.2.2.2.2.1 k0_t2
theorem k0_off15_inb : ∀ (v52 : BitVec 32) (k0_hw1 : k0_chk1 v52) (k0_t2 : Fin (k0_t2_loop v52).trips), ∀ a, (k0_off15 v52 k0_t2) a + S1x256x3.size a ≤ S1x2304x16.size a := fun v52 k0_hw1 k0_t2 => k0_hw1.2.2.2.2.2.2.2.2.2.2.2.2.2.2.2.2.2 k0_t2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2304x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4 : Shape := ⟨1, ![4]⟩
abbrev S4x2304x16 : Shape := ⟨3, ![4, 2304, 16]⟩
abbrev S3x1 : Shape := ⟨2, ![3, 1]⟩
abbrev S4x2304x1 : Shape := ⟨3, ![4, 2304, 1]⟩
abbrev S4x2304 : Shape := ⟨2, ![4, 2304]⟩
abbrev S4x2304x3 : Shape := ⟨3, ![4, 2304, 3]⟩
abbrev S4x1 : Shape := ⟨2, ![4, 1]⟩
abbrev S_ : Shape := ⟨0, ![]⟩
abbrev S96 : Shape := ⟨1, ![96]⟩
abbrev S96x96 : Shape := ⟨2, ![96, 96]⟩
abbrev S4x1x2304 : Shape := ⟨3, ![4, 1, 2304]⟩
abbrev S4x2304x2304 : Shape := ⟨3, ![4, 2304, 2304]⟩
abbrev S3x4x2304 : Shape := ⟨3, ![3, 4, 2304]⟩
abbrev S3x1x1 : Shape := ⟨3, ![3, 1, 1]⟩
abbrev S1x4x2304 : Shape := ⟨3, ![1, 4, 2304]⟩
abbrev S3x9216 : Shape := ⟨2, ![3, 9216]⟩

abbrev nBuf : Space → Nat
  | .hbm => 94
  | .vmem => 0
  | .smem => 0
  | _ => 0

abbrev bufTy : (tb : Table) → Fin (tcTables nBuf tb) → BufTy
  | .hbm, ⟨0, _⟩ => ⟨S4, .i32⟩
  | .hbm, ⟨1, _⟩ => ⟨S4x2304x16, .f32⟩
  | .hbm, ⟨2, _⟩ => ⟨S3x1, .f32⟩
  | .hbm, ⟨3, _⟩ => ⟨S4x2304x1, .f32⟩
  | .hbm, ⟨4, _⟩ => ⟨S4x2304, .f32⟩
  | .hbm, ⟨5, _⟩ => ⟨S4x2304x1, .f32⟩
  | .hbm, ⟨6, _⟩ => ⟨S4x2304, .f32⟩
  | .hbm, ⟨7, _⟩ => ⟨S4x2304x1, .f32⟩
  | .hbm, ⟨8, _⟩ => ⟨S4x2304, .f32⟩
  | .hbm, ⟨9, _⟩ => ⟨S4x2304x1, .f32⟩
  | .hbm, ⟨10, _⟩ => ⟨S4x2304, .f32⟩
  | .hbm, ⟨11, _⟩ => ⟨S4x2304x1, .f32⟩
  | .hbm, ⟨12, _⟩ => ⟨S4x2304, .f32⟩
  | .hbm, ⟨13, _⟩ => ⟨S4x2304x3, .f32⟩
  | .hbm, ⟨14, _⟩ => ⟨S4x2304, .i32⟩
  | .hbm, ⟨15, _⟩ => ⟨S4x1, .i32⟩
  | .hbm, ⟨16, _⟩ => ⟨S4x2304, .i32⟩
  | .hbm, ⟨17, _⟩ => ⟨S4x2304, .i1⟩
  | .hbm, ⟨18, _⟩ => ⟨S4x2304x1, .f32⟩
  | .hbm, ⟨19, _⟩ => ⟨S4x2304, .f32⟩
  | .hbm, ⟨20, _⟩ => ⟨S_, .f32⟩
  | .hbm, ⟨21, _⟩ => ⟨S_, .f32⟩
  | .hbm, ⟨22, _⟩ => ⟨S4x2304, .f32⟩
  | .hbm, ⟨23, _⟩ => ⟨S4x2304, .f32⟩
  | .hbm, ⟨24, _⟩ => ⟨S96, .f32⟩
  | .hbm, ⟨25, _⟩ => ⟨S96, .f32⟩
  | .hbm, ⟨26, _⟩ => ⟨S96x96, .f32⟩
  | .hbm, ⟨27, _⟩ => ⟨S96x96, .f32⟩
  | .hbm, ⟨28, _⟩ => ⟨S4x2304, .f32⟩
  | .hbm, ⟨29, _⟩ => ⟨S4x2304, .f32⟩
  | .hbm, ⟨30, _⟩ => ⟨S4x1x2304, .f32⟩
  | .hbm, ⟨31, _⟩ => ⟨S4x2304x1, .f32⟩
  | .hbm, ⟨32, _⟩ => ⟨S4x2304x2304, .f32⟩
  | .hbm, ⟨33, _⟩ => ⟨S4x2304x2304, .f32⟩
  | .hbm, ⟨34, _⟩ => ⟨S4x2304x2304, .f32⟩
  | .hbm, ⟨35, _⟩ => ⟨S4x1x2304, .f32⟩
  | .hbm, ⟨36, _⟩ => ⟨S4x2304x1, .f32⟩
  | .hbm, ⟨37, _⟩ => ⟨S4x2304x2304, .f32⟩
  | .hbm, ⟨38, _⟩ => ⟨S4x2304x2304, .f32⟩
  | .hbm, ⟨39, _⟩ => ⟨S4x2304x2304, .f32⟩
  | .hbm, ⟨40, _⟩ => ⟨S4x2304x1, .f32⟩
  | .hbm, ⟨41, _⟩ => ⟨S4x2304x2304, .f32⟩
  | .hbm, ⟨42, _⟩ => ⟨S4x2304x2304, .f32⟩
  | .hbm, ⟨43, _⟩ => ⟨S4x2304x2304, .f32⟩
  | .hbm, ⟨44, _⟩ => ⟨S4x2304x1, .f32⟩
  | .hbm, ⟨45, _⟩ => ⟨S4x2304x2304, .f32⟩
  | .hbm, ⟨46, _⟩ => ⟨S4x2304x2304, .f32⟩
  | .hbm, ⟨47, _⟩ => ⟨S4x2304x2304, .f32⟩
  | .hbm, ⟨48, _⟩ => ⟨S4x2304x2304, .f32⟩
  | .hbm, ⟨49, _⟩ => ⟨S_, .f32⟩
  | .hbm, ⟨50, _⟩ => ⟨S4x2304x2304, .f32⟩
  | .hbm, ⟨51, _⟩ => ⟨S4x2304x2304, .f32⟩
  | .hbm, ⟨52, _⟩ => ⟨S4x2304x1, .f32⟩
  | .hbm, ⟨53, _⟩ => ⟨S4x2304x2304, .f32⟩
  | .hbm, ⟨54, _⟩ => ⟨S4x2304x2304, .f32⟩
  | .hbm, ⟨55, _⟩ => ⟨S4x2304x2304, .f32⟩
  | .hbm, ⟨56, _⟩ => ⟨S4x2304x2304, .f32⟩
  | .hbm, ⟨57, _⟩ => ⟨S_, .f32⟩
  | .hbm, ⟨58, _⟩ => ⟨S4x2304x2304, .f32⟩
  | .hbm, ⟨59, _⟩ => ⟨S4x2304x2304, .f32⟩
  | .hbm, ⟨60, _⟩ => ⟨S4x2304x1, .f32⟩
  | .hbm, ⟨61, _⟩ => ⟨S4x2304x2304, .f32⟩
  | .hbm, ⟨62, _⟩ => ⟨S4x2304x2304, .f32⟩
  | .hbm, ⟨63, _⟩ => ⟨S4x2304x2304, .f32⟩
  | .hbm, ⟨64, _⟩ => ⟨S_, .f32⟩
  | .hbm, ⟨65, _⟩ => ⟨S4x2304x2304, .f32⟩
  | .hbm, ⟨66, _⟩ => ⟨S4x2304x2304, .f32⟩
  | .hbm, ⟨67, _⟩ => ⟨S_, .f32⟩
  | .hbm, ⟨68, _⟩ => ⟨S4x2304x2304, .f32⟩
  | .hbm, ⟨69, _⟩ => ⟨S4x2304x2304, .i1⟩
  | .hbm, ⟨70, _⟩ => ⟨S_, .f32⟩
  | .hbm, ⟨71, _⟩ => ⟨S_, .f32⟩
  | .hbm, ⟨72, _⟩ => ⟨S4x2304x2304, .f32⟩
  | .hbm, ⟨73, _⟩ => ⟨S4x2304x2304, .f32⟩
  | .hbm, ⟨74, _⟩ => ⟨S4x2304x2304, .f32⟩
  | .hbm, ⟨75, _⟩ => ⟨S4x2304x2304, .f32⟩
  | .hbm, ⟨76, _⟩ => ⟨S_, .f32⟩
  | .hbm, ⟨77, _⟩ => ⟨S_, .f32⟩
  | .hbm, ⟨78, _⟩ => ⟨S4x2304x2304, .f32⟩
  | .hbm, ⟨79, _⟩ => ⟨S4x2304x2304, .f32⟩
  | .hbm, ⟨80, _⟩ => ⟨S4x2304x2304, .f32⟩
  | .hbm, ⟨81, _⟩ => ⟨S4x2304x2304, .f32⟩
  | .hbm, ⟨82, _⟩ => ⟨S4x2304x3, .f32⟩
  | .hbm, ⟨83, _⟩ => ⟨S3x4x2304, .f32⟩
  | .hbm, ⟨84, _⟩ => ⟨S4x1x2304, .f32⟩
  | .hbm, ⟨85, _⟩ => ⟨S4x2304, .f32⟩
  | .hbm, ⟨86, _⟩ => ⟨S4x2304, .f32⟩
  | .hbm, ⟨87, _⟩ => ⟨S3x1x1, .f32⟩
  | .hbm, ⟨88, _⟩ => ⟨S1x4x2304, .f32⟩
  | .hbm, ⟨89, _⟩ => ⟨S3x4x2304, .f32⟩
  | .hbm, ⟨90, _⟩ => ⟨S3x4x2304, .f32⟩
  | .hbm, ⟨91, _⟩ => ⟨S3x4x2304, .f32⟩
  | .hbm, ⟨92, _⟩ => ⟨S3x4x2304, .f32⟩
  | .hbm, ⟨93, _⟩ => ⟨S3x9216, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_0 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_1 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_2 : Ref sig .tc := ⟨.hbm, 64, rfl⟩
abbrev main_v56 : Ref sig .tc := ⟨.hbm, 65, rfl⟩
abbrev main_v57 : Ref sig .tc := ⟨.hbm, 66, rfl⟩
abbrev main_cst_3 : Ref sig .tc := ⟨.hbm, 67, rfl⟩
abbrev main_v58 : Ref sig .tc := ⟨.hbm, 68, rfl⟩
abbrev main_v59 : Ref sig .tc := ⟨.hbm, 69, rfl⟩
abbrev main_cst_4 : Ref sig .tc := ⟨.hbm, 70, rfl⟩
abbrev main_call1_v0 : Ref sig .tc := ⟨.hbm, 71, rfl⟩
abbrev main_call1_v1 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_call2_call0_cst : Ref sig .tc := ⟨.hbm, 76, rfl⟩
abbrev main_call2_call0_v0 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩

abbrev nD : Nat := 1
abbrev τ : Topo := Topo.v7x

variable {F : FTy → Type} [FloatOps F]
-- ==== Kernel2.lean ====
abbrev S3x2048 : Shape := ⟨2, ![3, 2048]⟩
abbrev S48x2048 : Shape := ⟨2, ![48, 2048]⟩
abbrev S1x2048 : Shape := ⟨2, ![1, 2048]⟩
abbrev S4x2048 : Shape := ⟨2, ![4, 2048]⟩
abbrev S4x4 : Shape := ⟨2, ![4, 4]⟩
abbrev S1x3 : Shape := ⟨2, ![1, 3]⟩
abbrev S4x2304x16 : Shape := ⟨3, ![4, 2304, 16]⟩
abbrev S1x4 : Shape := ⟨2, ![1, 4]⟩
abbrev S1x1 : Shape := ⟨2, ![1, 1]⟩
abbrev S2048x1 : Shape := ⟨2, ![2048, 1]⟩
abbrev S2048x4 : Shape := ⟨2, ![2048, 4]⟩
abbrev S4 : Shape := ⟨1, ![4]⟩
abbrev S2048x2048 : Shape := ⟨2, ![2048, 2048]⟩
abbrev S7x2048 : Shape := ⟨2, ![7, 2048]⟩
abbrev S16x2048 : Shape := ⟨2, ![16, 2048]⟩
abbrev S1x768 : Shape := ⟨2, ![1, 768]⟩
abbrev S2048x768 : Shape := ⟨2, ![2048, 768]⟩
abbrev S768x16 : Shape := ⟨2, ![768, 16]⟩
abbrev S1x768x16 : Shape := ⟨3, ![1, 768, 16]⟩

abbrev nBuf : Space → Nat
  | .hbm => 10
  | .vmem => 10
  | .smem => 0
  | _ => 0

abbrev bufTy : (tb : Table) → Fin (tcTables nBuf tb) → BufTy
  | .hbm, ⟨0, _⟩ => ⟨S3x2048, .f32⟩
  | .hbm, ⟨1, _⟩ => ⟨S48x2048, .f32⟩
  | .hbm, ⟨2, _⟩ => ⟨S1x2048, .f32⟩
  | .hbm, ⟨3, _⟩ => ⟨S3x2048, .f32⟩
  | .hbm, ⟨4, _⟩ => ⟨S4x2048, .f32⟩
  | .hbm, ⟨5, _⟩ => ⟨S4x4, .f32⟩
  | .hbm, ⟨6, _⟩ => ⟨S4x4, .f32⟩
  | .hbm, ⟨7, _⟩ => ⟨S1x3, .f32⟩
  | .hbm, ⟨8, _⟩ => ⟨S4x2304x16, .f32⟩
  | .hbm, ⟨9, _⟩ => ⟨S1x4, .i32⟩
  | .local _ .vmem, ⟨0, _⟩ => ⟨S3x2048, .f32⟩
  | .local _ .vmem, ⟨1, _⟩ => ⟨S48x2048, .f32⟩
  | .local _ .vmem, ⟨2, _⟩ => ⟨S1x2048, .f32⟩
  | .local _ .vmem, ⟨3, _⟩ => ⟨S3x2048, .f32⟩
  | .local _ .vmem, ⟨4, _⟩ => ⟨S4x2048, .f32⟩
  | .local _ .vmem, ⟨5, _⟩ => ⟨S4x4, .f32⟩
  | .local _ .vmem, ⟨6, _⟩ => ⟨S4x4, .f32⟩
  | .local _ .vmem, ⟨7, _⟩ => ⟨S1x3, .f32⟩
  | .local _ .vmem, ⟨8, _⟩ => ⟨S4x2304x16, .f32⟩
  | .local _ .vmem, ⟨9, _⟩ => ⟨S1x4, .i32⟩
  | _, _ => ⟨S3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x2304x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Words.lean ====
module

public import proofs.«01_k».proof.Proof.Gen.KernelIdeal.Skeleton

@[expose] public section

namespace Cert.Composite

open Cert.KernelIdeal Cert.KernelIdeal.Gen Idealize.ShloMosaic

/-- The signed quotient of two small words is the quotient of their numbers. -/
theorem divsi_ofNat (a b : ℕ) (ha : a < 2 ^ 31) (hb : b < 2 ^ 31) (h0 : 0 < b) :
    Scalar.divsi (BitVec.ofNat 32 a) (BitVec.ofNat 32 b) = BitVec.ofNat 32 (a / b) := by
  have hma : (BitVec.ofNat 32 a).msb = false := by
    rw [BitVec.msb_eq_false_iff_two_mul_lt]; simp; omega
  have hmb : (BitVec.ofNat 32 b).msb = false := by
    rw [BitVec.msb_eq_false_iff_two_mul_lt]; simp; omega
  have hc : ¬ IntOp.SDivCorner (BitVec.ofNat 32 a) (BitVec.ofNat 32 b) := by
    rintro (h | ⟨h, -⟩)
    · have := congrArg BitVec.toNat h; simp at this; omega
    · rw [h] at hma; revert hma; decide
  show IntOp.divsi .scalar _ _ = _
  unfold IntOp.divsi
  rw [if_neg hc, BitVec.sdiv_eq, hma, hmb]
  have := Nat.div_le_self a b
  apply BitVec.eq_of_toNat_eq
  simp only [BitVec.udiv_eq, BitVec.toNat_udiv, BitVec.toNat_ofNat]
  rw [Nat.mod_eq_of_lt (by omega), Nat.mod_eq_of_lt (by omega), Nat.mod_eq_of_lt (by omega)]

/-- Dividing a word by one changes nothing. -/
theorem divsi_one (x : BitVec 32) : Scalar.divsi x 1#32 = x := by
  show IntOp.divsi .scalar _ _ = _
  unfold IntOp.divsi
  rw [if_neg (by rintro (h | ⟨-, h⟩) <;> revert h <;> decide)]
  exact BitVec.sdiv_one

/-- The bound of the compositing loop, as a word. -/
theorem loop1_ub (n : ℕ) (hn : n ≤ 2304) : (k0_t1_loop (BitVec.ofNat 32 n)).ub = BitVec.ofNat 32 ((n + 255) / 256) := by
  show Scalar.addi 0#32 (Scalar.muli (Scalar.divsi (Scalar.subi (Scalar.divsi (Scalar.addi (BitVec.ofNat 32 n) 255#32) 256#32) 0#32) 1#32) 1#32) = _
  have e : Scalar.addi (BitVec.ofNat 32 n) 255#32 = BitVec.ofNat 32 (n + 255) := (BitVec.ofNat_add n 255).symm
  rw [e, show (256#32) = BitVec.ofNat 32 256 from rfl, divsi_ofNat _ _ (by omega) (by omega) (by omega), divsi_one]
  simp [Scalar.addi, Scalar.muli, Scalar.subi, IntOp.addi, IntOp.muli, IntOp.subi]

/-- The second counted loop of the body makes no trips: its two bounds are one word. -/
theorem trips2_eq (v52 : BitVec 32) : (k0_t2_loop v52).trips = 0 := by
  have e : (k0_t2_loop v52).lb = (k0_t2_loop v52).ub := by
    show Scalar.addi 0#32 (Scalar.muli (Scalar.divsi _ 1#32) 1#32) = Scalar.addi 0#32 _
    rw [divsi_one]
    simp [Scalar.muli, IntOp.muli]
  show Scf.trips _ _ _ = 0
  unfold Scf.trips
  rw [e]
  simp

/-- The compositing loop's trip count: the chunks of 256 that cover the count. -/
theorem trips1_eq (n : ℕ) (hn : n ≤ 2304) : (k0_t1_loop (BitVec.ofNat 32 n)).trips = (n + 255) / 256 := by
  show Scf.trips (k0_t1_loop (BitVec.ofNat 32 n)).lb (k0_t1_loop (BitVec.ofNat 32 n)).ub (k0_t1_loop (BitVec.ofNat 32 n)).st = _
  rw [loop1_ub n hn]
  show Scf.trips 0#32 _ 1#32 = _
  unfold Scf.trips
  rw [BitVec.toInt_ofNat']
  simp [Int.bmod_def]
  omega

/-- The row the compositing loop's trip `k` starts at, as a number. -/
theorem row_word (k : ℕ) (hk : k ≤ 8) : (Scalar.muli (Scf.iv 0#32 1#32 k) 256#32).toNat = 256 * k := by
  show (IntOp.muli _ _).toNat = _
  unfold IntOp.muli Scf.iv
  simp
  omega

variable (n : ℕ) (hn : n ≤ 2304) (k : Fin (k0_t1_loop (BitVec.ofNat 32 n)).trips)

include hn in
theorem trip_le : k.val < (n + 255) / 256 :=
  lt_of_lt_of_eq k.isLt (trips1_eq n hn)

include hn in
/-- The rectangles trip `k` reads start at row `256 k`, each at its own column. -/
theorem offs_eq : k0_off2 (BitVec.ofNat 32 n) k = ![0, 256 * k.val, 0] ∧ k0_off3 (BitVec.ofNat 32 n) k = ![0, 256 * k.val, 1]
    ∧ k0_off4 (BitVec.ofNat 32 n) k = ![0, 256 * k.val, 2] ∧ k0_off5 (BitVec.ofNat 32 n) k = ![0, 256 * k.val, 3]
    ∧ k0_off6 (BitVec.ofNat 32 n) k = ![0, 256 * k.val, 4] ∧ k0_off7 (BitVec.ofNat 32 n) k = ![0, 256 * k.val, 5]
    ∧ k0_off8 (BitVec.ofNat 32 n) k = ![0, 256 * k.val, 6] := by
  have h := row_word k.val (by have := trip_le n hn k; omega)
  refine ⟨?_, ?_, ?_, ?_, ?_, ?_, ?_⟩ <;> exact congrArg (fun x => ![0, x, _]) h

include hn in
theorem inb_of (col w : ℕ) (hc : col + w ≤ 16) : ∀ a : Fin 3, (![0, 256 * k.val, col] : Fin 3 → ℕ) a + (![1, 256, w] : Fin 3 → ℕ) a ≤ (![1, 2304, 16] : Fin 3 → ℕ) a := by
  have := trip_le n hn k
  intro a; fin_cases a <;> simp <;> omega

/-- What the compositing body assumes of a count holds of every count up to 2304. -/
theorem chk0_of_le (v52 : BitVec 32) (h : v52.toNat ≤ 2304) : k0_chk1 v52 := by
  obtain ⟨n, hn, rfl⟩ : ∃ n, n ≤ 2304 ∧ v52 = BitVec.ofNat 32 n := ⟨v52.toNat, h, by simp⟩
  have z : ∀ (P : Fin (k0_t2_loop (BitVec.ofNat 32 n)).trips → Prop) k, P k := fun P k =>
    absurd (lt_of_lt_of_eq k.isLt (trips2_eq _)) (Nat.not_lt_zero _)
  have ok1 : (k0_t1_loop (BitVec.ofNat 32 n)).OK := by
    show 0 < (1#32).toInt ∧ (0#32).toInt + ((k0_t1_loop (BitVec.ofNat 32 n)).trips : ℤ) * (1#32).toInt < 2 ^ (32 - 1)
    rw [trips1_eq n hn]
    simp
    omega
  have ok2 : (k0_t2_loop (BitVec.ofNat 32 n)).OK := by
    have hlt : (k0_t2_loop (BitVec.ofNat 32 n)).lb.toInt < 2 ^ (32 - 1) := BitVec.toInt_lt
    show 0 < (1#32).toInt ∧ (k0_t2_loop (BitVec.ofNat 32 n)).lb.toInt + ((k0_t2_loop (BitVec.ofNat 32 n)).trips : ℤ) * (1#32).toInt < 2 ^ (32 - 1)
    rw [trips2_eq]
    refine ⟨by decide, by simpa using hlt⟩
  refine ⟨ok1, fun k => ?_, fun k => ?_, fun k => ?_, fun k => ?_, fun k => ?_, fun k => ?_, fun k => ?_, fun k => ?_, ok2,
    z _, z _, z _, z _, z _, z _, z _, z _⟩
  · have := row_word k.val (by have := trip_le n hn k; omega)
    exact ⟨k.val, this⟩
  · rw [(offs_eq n hn k).1]; exact inb_of n hn k 0 1 (by omega)
  · rw [(offs_eq n hn k).2.1]; exact inb_of n hn k 1 1 (by omega)
  · rw [(offs_eq n hn k).2.2.1]; exact inb_of n hn k 2 1 (by omega)
  · rw [(offs_eq n hn k).2.2.2.1]; exact inb_of n hn k 3 1 (by omega)
  · rw [(offs_eq n hn k).2.2.2.2.1]; exact inb_of n hn k 4 1 (by omega)
  · rw [(offs_eq n hn k).2.2.2.2.2.1]; exact inb_of n hn k 5 1 (by omega)
  · rw [(offs_eq n hn k).2.2.2.2.2.2]; exact inb_of n hn k 6 3 (by omega)

end Cert.Composite
-- ==== Proof.Pre.lean ====
module

public import proofs.«01_k».proof.Proof.Words
public import proofs.«01_k».proof.Proof.Gen.Pre_lists_fit
public import proofs.«01_k».proof.Proof.Gen.Kernel.Frame
public import proofs.«01_k».proof.Proof.Gen.KernelIdeal.Frame
public import proofs.«01_k».proof.Defs
public import Idealize.ShloMosaic.Lib.ReduceAll
public import Idealize.ShloMosaic.Lib.Affine

/-! # What the precondition `lists_fit` says

Read off its printed function at any floats: every count lies between 0 and 2304 (`count_le`). From this the
launch's own conditions on the words it reads follow. -/

@[expose] public section

noncomputable section

namespace Cert.Composite

open Idealize.ShloMosaic Idealize.SL.Sem
open Cert.Pre_lists_fit Cert.Pre_lists_fit.Gen

variable {F : FTy → Type} [FloatOps F]

instance : Subsingleton Cert.Pre_lists_fit.S_.Idx := ⟨fun a b => by funext i; exact i.elim0⟩

section
variable (x0 : IVec Cert.Pre_lists_fit.S4 32) (x1 : FVec F Cert.Pre_lists_fit.S4x2304x16 .f32) (x2 : FVec F Cert.Pre_lists_fit.S3x1 .f32)
  (h : Cert.Pre_lists_fit.fn (F := F) x0 x1 x2 = fun _ => 1#1)

include h in
/-- Every count lies between 0 and 2304. -/
theorem count_le (b : Cert.Pre_lists_fit.S4.Idx) : (x0 b).toNat ≤ 2304 := by
  have e := congrFun h (fun a => a.elim0)
  have e1 := (IntOp.andi_eq_one.1 e).1
  have e2 := Host.reduce_andi_all _ _ _ _ _ e1 b
  obtain ⟨a1, a2⟩ := IntOp.andi_eq_one.1 e2
  have a1 := IntOp.cmpi_sge.1 a1
  have a2 := IntOp.cmpi_sle.1 a2
  have z : (0#32 : BitVec 32).toInt = 0 := by decide
  have z' : (2304#32 : BitVec 32).toInt = 2304 := by decide
  change (0#32 : BitVec 32).toInt ≤ _ at a1
  change _ ≤ (2304#32 : BitVec 32).toInt at a2
  rw [z] at a1; rw [z'] at a2
  rw [BitVec.toInt_eq_toNat_cond] at a1 a2
  split at a1 <;> omega

end

end Cert.Composite

namespace Cert.KernelIdeal.Gen

open Idealize.ShloMosaic Idealize.SL.Sem

variable {F : FTy → Type} [FloatOps F] (m : (ℓ : Loc nD τ sig) → Buf (Elt F) ℓ)

/-- The launch's windows do not depend on the counts. -/
theorem ok : Ok m := by unfold Ok ok0; trivial

/-- Counts up to 2304 are all that the body assumes of the words it reads. -/
theorem hyps_of_le (h : ∀ (c : Dev nD) b, (m ((c.tc : Thread nD τ).loc main_arg0) b).toNat ≤ 2304) : Hyps m (ok m) := fun c t =>
  Cert.Composite.chk0_of_le _ (h 0 _)

end Cert.KernelIdeal.Gen

namespace Cert.Kernel.Gen

open Idealize.ShloMosaic Idealize.SL.Sem

variable {F : FTy → Type} [FloatOps F] (m : (ℓ : Loc nD τ sig) → Buf (Elt F) ℓ)

/-- The launch's windows do not depend on the counts. -/
theorem ok : Ok m := by unfold Ok ok0; trivial

/-- Counts up to 2304 are all that the body assumes of the words it reads. -/
theorem hyps_of_le (h : ∀ (c : Dev nD) b, (m ((c.tc : Thread nD τ).loc main_arg0) b).toNat ≤ 2304) : Hyps m (ok m) := fun c t =>
  Cert.Composite.chk0_of_le _ (h 0 _)

end Cert.Kernel.Gen

end
-- ==== Proof.Block.lean ====
module

public import proofs.«01_k».proof.Proof.Words
public import proofs.«01_k».proof.Proof.Gen.KernelIdeal.Frame
public import Idealize.ShloMosaic.Lib.Pipeline.Value
public import Idealize.ShloMosaic.Lib.Pipeline.FrameBody

@[expose] public section

noncomputable section

namespace Cert.Composite

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the loop carries: the summed log transmittances and the summed colours, per pixel. -/
abbrev Acc (F : FTy → Type) := FVec F S1x2304 .f32 × FVec F S3x2304 .f32

/-- One trip of the compositing loop as a function of the block's contents `X`: 256 of its rows folded into the carried pair. -/
def blockStep (X : S1x2304x16.Idx → Elt F .f32) (v20 : FVec F S1x2304 .f32)
    (v44 : IVec S1x2304 32) (v52 : BitVec 32) (hw : k0_chk1 v52) (k : Fin (k0_t1_loop v52).trips) (acc : Acc F) : Acc F :=
  let v91 := k0_pay16 (fun x => X ((Rect.unit (s := S1x2304x16) (k0_off7 v52 k) S1x256x1.size (k0_off7_inb v52 hw k)).toLoadRect.idx x))
  let v94 := k0_pay17 (fun x => X ((Rect.unit (s := S1x2304x16) (k0_off8 v52 k) S1x256x3.size (k0_off8_inb v52 hw k)).toLoadRect.idx x))
  let v113 := k0_pay18 v20 (k0_pay1 (F := F) v44)
    (fun x => X ((Rect.unit (s := S1x2304x16) (k0_off2 v52 k) S1x256x1.size (k0_off2_inb v52 hw k)).toLoadRect.idx x))
    (fun x => X ((Rect.unit (s := S1x2304x16) (k0_off3 v52 k) S1x256x1.size (k0_off3_inb v52 hw k)).toLoadRect.idx x))
    (fun x => X ((Rect.unit (s := S1x2304x16) (k0_off4 v52 k) S1x256x1.size (k0_off4_inb v52 hw k)).toLoadRect.idx x))
    (fun x => X ((Rect.unit (s := S1x2304x16) (k0_off5 v52 k) S1x256x1.size (k0_off5_inb v52 hw k)).toLoadRect.idx x))
    (fun x => X ((Rect.unit (s := S1x2304x16) (k0_off6 v52 k) S1x256x1.size (k0_off6_inb v52 hw k)).toLoadRect.idx x))
  (k0_pay9 acc.1 v91 v113 (Scalar.ofBits .f32 0x00000000#32), k0_pay8 acc.1 acc.2 v91 v94 v113 (Scalar.ofBits .f32 0x00000000#32))

/-- The carried pair before trip `k`, as a function of the block's contents. -/
def blockAt (X : S1x2304x16.Idx → Elt F .f32) (v20 : FVec F S1x2304 .f32)
    (v44 : IVec S1x2304 32) (v52 : BitVec 32) (hw : k0_chk1 v52) (init : Acc F) : ℕ → Acc F
  | 0 => init
  | k + 1 => if h : k < (k0_t1_loop v52).trips then blockStep X v20 v44 v52 hw ⟨k, h⟩ (blockAt X v20 v44 v52 hw init k)
      else blockAt X v20 v44 v52 hw init k

theorem tripR_eq (𝒱 : Variants) (c : Dev nD) (bd : Option 𝒱.V) (i : grid0.Coords) (M1 : Memref sig .tc .smem S4 .i32) (h1 : M1.IsWhole)
    (M2 : Memref sig .tc .vmem S1x2304x16 .f32) (h2 : M2.IsWhole) (M3 : Memref sig .tc .vmem S3x1 .f32) (h3 : M3.IsWhole)
    (M4 : Memref sig .tc .vmem S3x2304 .f32) (h4 : M4.IsWhole) (v20 : FVec F S1x2304 .f32) (v44 : IVec S1x2304 32) (v52 : BitVec 32)
    (hw : k0_chk1 v52) (X) (k : Fin (k0_t1_loop v52).trips) (acc : Acc F) :
    tripR_k0_t1 (F := F) 𝒱 c bd i M1 h1 M2 h2 M3 h3 M4 h4 v20 v44 v52 hw X k acc = blockStep (M2.view.read (Elt F) X) v20 v44 v52 hw k acc := by
  unfold tripR_k0_t1 trip_k0_t1
  rfl

theorem st_eq (𝒱 : Variants) (c : Dev nD) (bd : Option 𝒱.V) (i : grid0.Coords) (M1 : Memref sig .tc .smem S4 .i32) (h1 : M1.IsWhole)
    (M2 : Memref sig .tc .vmem S1x2304x16 .f32) (h2 : M2.IsWhole) (M3 : Memref sig .tc .vmem S3x1 .f32) (h3 : M3.IsWhole)
    (M4 : Memref sig .tc .vmem S3x2304 .f32) (h4 : M4.IsWhole) (v20 : FVec F S1x2304 .f32) (v44 : IVec S1x2304 32) (v52 : BitVec 32)
    (hw : k0_chk1 v52) (X) (init : Acc F) (k : ℕ) :
    st_k0_t1 (F := F) 𝒱 c bd i M1 h1 M2 h2 M3 h3 M4 h4 v20 v44 v52 hw X init k = blockAt (M2.view.read (Elt F) X) v20 v44 v52 hw init k := by
  induction k with
  | zero => rfl
  | succ k ih =>
    simp only [st_k0_t1, blockAt, ih]
    unfold st_k0_t1Step
    split
    · exact tripR_eq ..
    · rfl

/-- The block the compositing body leaves at grid point `i`, from the splats' block `X`, the background `B` and the count `w`. -/
def resOf (i : grid0.Coords) (X : S1x2304x16.Idx → Elt F .f32) (B : S3x1.Idx → Elt F .f32) (w : BitVec 32) (hw : k0_chk1 w) :
    S3x2304.Idx → Elt F .f32 :=
  let acc := blockAt X (k0_pay23 i) (k0_pay24 i) w hw (k0_pay3, k0_pay4) (k0_t1_loop w).trips
  k0_pay15 acc.1 acc.2 B

/-- What the body leaves in its output block, as a function of the input blocks and the count. -/
theorem out_eq (c : Dev nD) (i : grid0.Coords)
    (M2 : Memref sig .tc .vmem S1x2304x16 .f32) (h2 : M2.IsWhole) (M3 : Memref sig .tc .vmem S3x1 .f32) (h3 : M3.IsWhole)
    (M4 : Memref sig .tc .vmem S3x2304 .f32) (h4 : M4.IsWhole)
    (x0 : Vec F S1x2304x16 .f32) (x1 : Vec F S3x1 .f32) (xt : TbBuf0 (F := F) c tbM0_0) (hw) :
    out0_A_2 c i M2 h2 M3 h3 M4 h4 x0 x1 xt hw = resOf i x0 x1 _ hw := by
  unfold out0_A_2 kernelRun0_A
  dsimp only
  refine (View.read_writes_eq_canon _ _ _ (fun y => ⟨_, List.mem_singleton_self _, View.mem_set_unit_zero (by decide) inb_S3x2304_S3x2304_0_0 y⟩)).trans ?_
  refine (View.canon_unit_zero (by decide) _ _).trans ?_
  have hB : View.readAt (Elt F) M3.view (Rect.unit (s := S3x1) ![0, 0] S3x1.size inb_S3x1_S3x1_0_0).toLoadRect (h3.unread x1) = x1 :=
    (View.ld_unit_zero (by decide) inb_S3x1_S3x1_0_0 (M3.view.read (Elt F) (h3.unread x1))).trans (h3.read_unread x1)
  have e2 : ∀ w hw' init, st_k0_t2 (F := F) Variants.none c none i tbM0_0 htbM0_0 M2 h2 M3 h3 M4 h4 (k0_pay23 i) (k0_pay24 i) w hw'
      (Scalar.addi (0#32) (Scalar.muli (Scalar.divsi (Scalar.subi (Scalar.divsi (Scalar.addi w 255#32) 256#32) 0#32) 1#32) 1#32))
      (h2.unread x0) init (k0_t2_loop w).trips = init := fun w hw' init => by rw [trips2_eq]; rfl
  have e1 : ∀ w w' (hw : k0_chk1 w) (hw' : k0_chk1 w'), w = w' →
      k0_pay15
        (blockAt x0 (k0_pay23 i) (k0_pay24 i) w hw (k0_pay3, k0_pay4)
          (Scf.trips (0#32) (Scalar.addi (0#32) (Scalar.muli (Scalar.divsi (Scalar.subi (Scalar.divsi (Scalar.addi w 255#32) 256#32) 0#32) 1#32) 1#32)) 1#32)).1
        (blockAt x0 (k0_pay23 i) (k0_pay24 i) w hw (k0_pay3, k0_pay4)
          (Scf.trips (0#32) (Scalar.addi (0#32) (Scalar.muli (Scalar.divsi (Scalar.subi (Scalar.divsi (Scalar.addi w 255#32) 256#32) 0#32) 1#32) 1#32)) 1#32)).2 x1
        = resOf i x0 x1 w' hw' := fun w w' hw hw' e => by subst e; rfl
  rw [e2, hB, st_eq, h2.read_unread]
  have hr : kernelRun0_A.sl.r c i xt = (tbM0_0.view.readAt (Elt F) (Rect.unit (s := S4) (k0_off1 i) S1.size (k0_off1_inb i)).toLoadRect xt (Shape.Idx.first (numel1_S1.symm ▸ Nat.one_pos))) := rfl
  simp only [hr]
  exact e1 _ _ hw hw rfl

end Cert.Composite

end
-- ==== Proof.Math.lean ====
module

public import Idealize.ShloMosaic.PureOps.Ideal
public import Idealize.ShloMosaic.Lib.IdealHost

/-! # Front-to-back compositing over the extended reals

One pixel sees a list of splats. Splat `r` has the opacity `A r` at the pixel, the colour `G r`, and leaves the
fraction `1 - A r` of the light through; `lsum L k` adds the logarithms `L` of these fractions over the first `k`
splats and `csum A L G k` the colours, each weighted by its opacity and by the light that reaches it. -/

@[expose] public section

noncomputable section

namespace Cert.Composite

open Idealize.ShloMosaic

/-- The largest opacity, 0.99, and the smallest that counts, 1/255, as the program's words read them. -/
abbrev cMax : EReal := Ideal.ofBits .f32 0x3F7D70A4#32
abbrev cMin : EReal := Ideal.ofBits .f32 0x3B808081#32
abbrev mHalf : EReal := Ideal.ofBits .f32 0xBF000000#32

/-- The exponent of a splat centred at `(px, py)` with conic `(ca, cb, cc)` at the pixel `(X, Y)`. -/
def power (px py ca cb cc X Y : EReal) : EReal :=
  mHalf * (ca * (X - px) * (X - px) + cc * (Y - py) * (Y - py)) - cb * (X - px) * (Y - py)

/-- The opacity of a splat of opacity `op` where its exponent is `p`. -/
def alphaOf (op p : EReal) : EReal :=
  if min cMax (op * Ideal.exp (min p 0)) < cMin then 0 else min cMax (op * Ideal.exp (min p 0))

theorem zero_word : Ideal.ofBits .f32 0x00000000#32 = 0 := Ideal.ofBits_zero_f32

theorem one_word : Ideal.ofBits .f32 0x3F800000#32 = 1 := Ideal.ofBits_one_f32

theorem cMax_eq : cMax = ((16609444 / 16777216 : ℝ) : EReal) := by
  simp [cMax, Ideal.ofBits, Ideal.ieee, -EReal.coe_mul]
  norm_num

theorem cMax_real : ∃ r : ℝ, cMax = (r : EReal) ∧ 0 < r ∧ r < 1 := ⟨_, cMax_eq, by norm_num, by norm_num⟩

theorem log_coe (r : ℝ) : Ideal.log (r : EReal) = if r ≤ 0 then ⊥ else (Real.log r : EReal) := rfl

theorem cMin_pos : 0 < cMin := by
  simp [cMin, Ideal.ofBits, Ideal.ieee, -EReal.coe_mul]

theorem alphaOf_zero (p : EReal) : alphaOf 0 p = 0 := by
  obtain ⟨r, hr, h0, -⟩ := cMax_real
  unfold alphaOf
  rw [zero_mul, min_eq_right (by rw [hr]; exact_mod_cast h0.le), if_pos cMin_pos]

/-- An opacity is a real number at least 0 and below 1. -/
theorem alphaOf_real (op p : EReal) : ∃ a : ℝ, alphaOf op p = (a : EReal) ∧ a < 1 := by
  obtain ⟨r, hr, h0, h1⟩ := cMax_real
  unfold alphaOf
  split
  · exact ⟨0, rfl, by norm_num⟩
  · rename_i h
    have hlo : 0 < min cMax (op * Ideal.exp (min p 0)) := lt_of_lt_of_le cMin_pos (not_lt.1 h)
    have hhi : min cMax (op * Ideal.exp (min p 0)) ≤ (r : EReal) := hr ▸ min_le_left _ _
    generalize min cMax (op * Ideal.exp (min p 0)) = y at hlo hhi
    induction y with
    | bot => simp at hlo
    | top => simp at hhi
    | coe y => exact ⟨y, rfl, lt_of_le_of_lt (by exact_mod_cast hhi) h1⟩

theorem log_one_sub_zero : Ideal.log (1 - 0) = 0 := by
  have : (1 - 0 : EReal) = ((1 : ℝ) : EReal) := by simp
  rw [this, log_coe]; simp

/-- The logarithm of what a splat lets through is a real number. -/
theorem log_real (op p : EReal) : ∃ l : ℝ, Ideal.log (1 - alphaOf op p) = (l : EReal) := by
  obtain ⟨a, ha, h1⟩ := alphaOf_real op p
  have : (1 - alphaOf op p : EReal) = ((1 - a : ℝ) : EReal) := by rw [ha]; norm_cast
  rw [this, log_coe]
  exact ⟨_, if_neg (by linarith)⟩

/-- Row `r` of a list of 2304 rows. -/
def row (r : ℕ) : Fin 2304 := ⟨r % 2304, Nat.mod_lt _ (by norm_num)⟩

theorem row_val (r : ℕ) (h : r < 2304) : (row r).val = r := Nat.mod_eq_of_lt h

/-- The logarithms of the first `k` splats, added up. -/
def lsum (L : ℕ → EReal) (k : ℕ) : EReal := ∑ i ∈ Finset.range k, L i

/-- The colours of the first `k` splats as they reach the pixel. -/
def csum (A L G : ℕ → EReal) (k : ℕ) : EReal := ∑ i ∈ Finset.range k, G i * (A i * Ideal.exp (lsum L i))

theorem lsum_zero (L : ℕ → EReal) : lsum L 0 = 0 := Finset.sum_range_zero _

theorem csum_zero (A L G : ℕ → EReal) : csum A L G 0 = 0 := Finset.sum_range_zero _

theorem lsum_add (L : ℕ → EReal) (k r : ℕ) : lsum L (k + r) = lsum L k + ∑ i ∈ Finset.range r, L (k + i) :=
  Finset.sum_range_add _ _ _

theorem csum_add (A L G : ℕ → EReal) (k r : ℕ) :
    csum A L G (k + r) = csum A L G k + ∑ i ∈ Finset.range r, G (k + i) * (A (k + i) * Ideal.exp (lsum L (k + i))) :=
  Finset.sum_range_add _ _ _

/-- Adding the rows before `r` by multiplying with zeros and ones. -/
theorem sum_below (n r : ℕ) (hr : r ≤ n) (f : ℕ → EReal) :
    ∑ j : Fin n, (if j.val < r then (1 : EReal) else 0) * f j.val = ∑ j ∈ Finset.range r, f j := by
  rw [Fin.sum_univ_eq_sum_range (fun j => (if j < r then (1 : EReal) else 0) * f j) n]
  rw [← Finset.sum_subset (Finset.range_subset_range.2 hr) (fun x _ hx => by rw [if_neg (by simpa using hx), zero_mul])]
  exact Finset.sum_congr rfl fun x hx => by rw [if_pos (Finset.mem_range.1 hx), one_mul]

theorem lsum_real (L : ℕ → EReal) (h : ∀ r, ∃ l : ℝ, L r = l) (k : ℕ) : ∃ l : ℝ, lsum L k = l := by
  induction k with
  | zero => exact ⟨0, lsum_zero L⟩
  | succ k ih =>
    obtain ⟨a, ha⟩ := ih; obtain ⟨b, hb⟩ := h k
    exact ⟨a + b, by unfold lsum at *; rw [Finset.sum_range_succ, ha, hb, EReal.coe_add]⟩

/-- The sum up to and with splat `r`, less its own logarithm, is the sum before it. -/
theorem lsum_succ_sub (L : ℕ → EReal) (h : ∀ r, ∃ l : ℝ, L r = l) (r : ℕ) : lsum L (r + 1) - L r = lsum L r := by
  obtain ⟨a, ha⟩ := lsum_real L h r; obtain ⟨b, hb⟩ := h r
  unfold lsum at *
  rw [Finset.sum_range_succ, ha, hb]
  norm_cast; ring

/-- Splats of opacity zero change neither sum. -/
theorem sums_stop (A G : ℕ → EReal) (k : ℕ) (hA : ∀ r, k ≤ r → A r = 0) (m : ℕ) (hm : k ≤ m) :
    lsum (fun r => Ideal.log (1 - A r)) m = lsum (fun r => Ideal.log (1 - A r)) k
      ∧ csum A (fun r => Ideal.log (1 - A r)) G m = csum A (fun r => Ideal.log (1 - A r)) G k := by
  obtain ⟨d, rfl⟩ := Nat.exists_eq_add_of_le hm
  constructor
  · rw [lsum_add, Finset.sum_eq_zero fun i _ => by rw [hA _ (Nat.le_add_right k i), log_one_sub_zero], add_zero]
  · rw [csum_add, Finset.sum_eq_zero fun i _ => by rw [hA _ (Nat.le_add_right k i), zero_mul, mul_zero], add_zero]

end Cert.Composite

end
-- ==== Proof.Step.lean ====
module

public import proofs.«01_k».proof.Proof.Block
public import proofs.«01_k».proof.Proof.Math
public import Idealize.ShloMosaic.Lib.ValueIdx
public import Idealize.ShloMosaic.Lib.ValueLayout
public import Idealize.ShloMosaic.PureOps.Ideal.Laws

/-! # One pixel of the compositing loop over the extended reals

`blockStep_apply`: a trip of the loop moves the pair carried for a pixel from the sums over the first `256 k` splats of
the list to the sums over the first `256 (k + 1)`. -/

@[expose] public section

noncomputable section

namespace Cert.Composite

open Cert.KernelIdeal Cert.KernelIdeal.Gen Idealize.ShloMosaic Idealize.ShloMosaic.ValueIdx

/-- A column vector spread over the lanes, read at an entry. -/
theorem col_apply {α : Type} {a b : ℕ} (v : (⟨2, ![a, 1]⟩ : Shape).Idx → α) (h : (⟨2, ![a, 1]⟩ : Shape).Broadcasts ⟨2, ![a, b]⟩) (ha : a ≠ 1)
    (r : Fin a) (n : Fin b) : broadcastTo ⟨2, ![a, b]⟩ v h (ix2 r n) = v (ix2 r 0) := by
  refine broadcastTo_apply v h _ _ fun ax => ?_
  match ax with
  | ⟨0, _⟩ => exact (if_neg ha).symm
  | ⟨1, _⟩ => exact (if_pos rfl).symm

theorem select_lt (x y a b : EReal) : Scalar.select (FloatOps.cmpf (F := Ideal) (φ := .f32) .olt x y) a b = if x < y then a else b := by
  show (if BitVec.ofBool (decide (x < y)) = 1#1 then a else b) = _
  by_cases h : x < y <;> simp [h]

/-- The opacities of a chunk's splats at the pixels. -/
theorem pay5_apply (v90 : FVec Ideal S256x1 .f32) (v112 : FVec Ideal S256x2304 .f32) (r : Fin 256) (n : Fin 2304) :
    k0_pay5 v90 v112 (Scalar.ofBits .f32 0x00000000#32) (ix2 r n) = alphaOf (v90 (ix2 r 0)) (v112 (ix2 r n)) := by
  unfold k0_pay5
  rw [select_apply, cmpf_apply, select_lt]
  have e : minimumf (broadcast S256x2304 (Scalar.ofBits .f32 0x3F7D70A4#32))
      (mulf (broadcastTo S256x2304 v90 broadcasts_S256x1_S256x2304) (exp (minimumf v112 (broadcast S256x2304 (Scalar.ofBits .f32 0x00000000#32))))) (ix2 r n)
      = min cMax (v90 (ix2 r 0) * Ideal.exp (min (v112 (ix2 r n)) 0)) := by
    show min cMax (broadcastTo S256x2304 v90 broadcasts_S256x1_S256x2304 (ix2 r n) * Ideal.exp (min (v112 (ix2 r n)) (Ideal.ofBits .f32 0x00000000#32))) = _
    rw [col_apply _ _ (by decide), zero_word]
  rw [e]
  show (if _ < cMin then Ideal.ofBits .f32 0x00000000#32 else _) = _
  rw [zero_word]
  rfl

/-- The logarithm of what each splat of a chunk lets through. -/
theorem pay6_apply (v90 : FVec Ideal S256x1 .f32) (v112 : FVec Ideal S256x2304 .f32) (r : Fin 256) (n : Fin 2304) :
    k0_pay6 v90 v112 (Scalar.ofBits .f32 0x00000000#32) (ix2 r n) = Ideal.log (1 - alphaOf (v90 (ix2 r 0)) (v112 (ix2 r n))) := by
  show Ideal.log (Ideal.ofBits .f32 0x3F800000#32 - k0_pay5 v90 v112 (Scalar.ofBits .f32 0x00000000#32) (ix2 r n)) = _
  rw [one_word, pay5_apply]

/-- The strictly lower triangular matrix of ones. -/
theorem pay2_apply (r j : Fin 256) : (k0_pay2 (F := Ideal)) (ix2 r j) = if j.val < r.val then 1 else 0 := by
  unfold k0_pay2
  dsimp only
  rw [sitofp_apply, extui_apply]
  show ((((IntOp.cmpi .slt (iota .tc S256x256 32 [1] _ (ix2 r j)) (iota .tc S256x256 32 [0] _ (ix2 r j))).setWidth 32).toInt : ℝ) : EReal) = _
  rw [iota_single_apply, iota_single_apply]
  show ((((BitVec.ofBool ((BitVec.ofNat 32 j.val).slt (BitVec.ofNat 32 r.val))).setWidth 32).toInt : ℝ) : EReal) = _
  have e : (BitVec.ofNat 32 j.val).slt (BitVec.ofNat 32 r.val) = decide (j.val < r.val) := by
    have := j.isLt; have := r.isLt
    rw [BitVec.slt_eq_decide]
    congr 1
    simp only [BitVec.toInt_eq_toNat_cond, BitVec.toNat_ofNat, eq_iff_iff]
    rw [Nat.mod_eq_of_lt (by omega), Nat.mod_eq_of_lt (by omega), if_pos (by omega), if_pos (by omega)]
    omega
  rw [e]
  by_cases h : j.val < r.val <;> simp [h]

theorem lhsA (r : Fin 256) (n : Fin 2304) (j : Fin 256) :
    dot_S256x256_S256x2304_S256x2304_1_0_0_1_n_n.lhsIdx (ix2 r n) ((contrEquiv1 dot_S256x256_S256x2304_S256x2304_1_0_0_1_n_n 256 rfl rfl).symm j) = ix2 r j := by
  have hk := contrEquiv1_symm_val dot_S256x256_S256x2304_S256x2304_1_0_0_1_n_n 256 rfl rfl j
  funext a
  match a with
  | ⟨0, _⟩ =>
    refine Fin.ext ?_
    show (dot_S256x256_S256x2304_S256x2304_1_0_0_1_n_n.lhsIdx _ _ 0).val = r.val
    unfold DotDims.lhsIdx
    rw [dif_neg (by decide), dif_pos (show (0 : Fin S256x256.rank) ∈ dot_S256x256_S256x2304_S256x2304_1_0_0_1_n_n.lhsNonContracting by decide)]
    rfl
  | ⟨1, _⟩ => exact Fin.ext ((dot_S256x256_S256x2304_S256x2304_1_0_0_1_n_n.lhsIdx_val_of_single rfl _ _).trans hk)

theorem rhsA (r : Fin 256) (n : Fin 2304) (j : Fin 256) :
    dot_S256x256_S256x2304_S256x2304_1_0_0_1_n_n.rhsIdx (ix2 r n) ((contrEquiv1 dot_S256x256_S256x2304_S256x2304_1_0_0_1_n_n 256 rfl rfl).symm j) = ix2 j n := by
  have hk := contrEquiv1_symm_val dot_S256x256_S256x2304_S256x2304_1_0_0_1_n_n 256 rfl rfl j
  funext a
  match a with
  | ⟨1, _⟩ =>
    refine Fin.ext ?_
    show (dot_S256x256_S256x2304_S256x2304_1_0_0_1_n_n.rhsIdx _ _ 1).val = n.val
    unfold DotDims.rhsIdx
    rw [dif_neg (by decide), dif_pos (show (1 : Fin S256x2304.rank) ∈ dot_S256x256_S256x2304_S256x2304_1_0_0_1_n_n.rhsNonContracting by decide)]
    rfl
  | ⟨0, _⟩ => exact Fin.ext ((dot_S256x256_S256x2304_S256x2304_1_0_0_1_n_n.rhsIdx_val_of_single rfl _ _).trans hk)

theorem lhsB (c : Fin 3) (n : Fin 2304) (j : Fin 256) :
    dot_S256x3_S256x2304_S3x2304_0_0_1_1_n_n.lhsIdx (ix2 c n) ((contrEquiv1 dot_S256x3_S256x2304_S3x2304_0_0_1_1_n_n 256 rfl rfl).symm j) = ix2 j c := by
  have hk := contrEquiv1_symm_val dot_S256x3_S256x2304_S3x2304_0_0_1_1_n_n 256 rfl rfl j
  funext a
  match a with
  | ⟨1, _⟩ =>
    refine Fin.ext ?_
    show (dot_S256x3_S256x2304_S3x2304_0_0_1_1_n_n.lhsIdx _ _ 1).val = c.val
    unfold DotDims.lhsIdx
    rw [dif_neg (by decide), dif_pos (show (1 : Fin S256x3.rank) ∈ dot_S256x3_S256x2304_S3x2304_0_0_1_1_n_n.lhsNonContracting by decide)]
    rfl
  | ⟨0, _⟩ => exact Fin.ext ((dot_S256x3_S256x2304_S3x2304_0_0_1_1_n_n.lhsIdx_val_of_single rfl _ _).trans hk)

theorem rhsB (c : Fin 3) (n : Fin 2304) (j : Fin 256) :
    dot_S256x3_S256x2304_S3x2304_0_0_1_1_n_n.rhsIdx (ix2 c n) ((contrEquiv1 dot_S256x3_S256x2304_S3x2304_0_0_1_1_n_n 256 rfl rfl).symm j) = ix2 j n := by
  have hk := contrEquiv1_symm_val dot_S256x3_S256x2304_S3x2304_0_0_1_1_n_n 256 rfl rfl j
  funext a
  match a with
  | ⟨1, _⟩ =>
    refine Fin.ext ?_
    show (dot_S256x3_S256x2304_S3x2304_0_0_1_1_n_n.rhsIdx _ _ 1).val = n.val
    unfold DotDims.rhsIdx
    rw [dif_neg (by decide), dif_pos (show (1 : Fin S256x2304.rank) ∈ dot_S256x3_S256x2304_S3x2304_0_0_1_1_n_n.rhsNonContracting by decide)]
    rfl
  | ⟨0, _⟩ => exact Fin.ext ((dot_S256x3_S256x2304_S3x2304_0_0_1_1_n_n.rhsIdx_val_of_single rfl _ _).trans hk)

/-- The logarithms of the chunk's splats before splat `r`, added up. -/
theorem pay7_apply (v90 : FVec Ideal S256x1 .f32) (v112 : FVec Ideal S256x2304 .f32) (L : ℕ → EReal) (n : Fin 2304)
    (hL : ∀ r : Fin 256, Ideal.log (1 - alphaOf (v90 (ix2 r 0)) (v112 (ix2 r n))) = L r.val) (r : Fin 256) :
    k0_pay7 v90 v112 (Scalar.ofBits .f32 0x00000000#32) (ix2 r n) = ∑ j ∈ Finset.range r.val, L j := by
  unfold k0_pay7
  show FloatOps.matmul (F := Ideal) dot_S256x256_S256x2304_S256x2304_1_0_0_1_n_n _ _ _ _ (ix2 r n) = _
  rw [Ideal.matmul_apply, ← Equiv.sum_comp (contrEquiv1 dot_S256x256_S256x2304_S256x2304_1_0_0_1_n_n 256 rfl rfl).symm, constant_apply, zero_word, zero_add,
    ← sum_below 256 r.val r.isLt.le]
  refine Finset.sum_congr rfl fun j _ => ?_
  rw [lhsA, rhsA, pay2_apply, pay6_apply, hL]

/-- The opacity of the splat in row `r` of a block at the pixel `(PX, PY)`. -/
def opac (X : S1x2304x16.Idx → EReal) (PX PY : EReal) (r : ℕ) : EReal :=
  alphaOf (X (ix3 0 (row r) 5)) (power (X (ix3 0 (row r) 0)) (X (ix3 0 (row r) 1)) (X (ix3 0 (row r) 2)) (X (ix3 0 (row r) 3)) (X (ix3 0 (row r) 4)) PX PY)

/-- The logarithm of what that splat lets through. -/
def logT (X : S1x2304x16.Idx → EReal) (PX PY : EReal) (r : ℕ) : EReal := Ideal.log (1 - opac X PX PY r)

/-- Colour `c` of the splat in row `r` of a block. -/
def colour (X : S1x2304x16.Idx → EReal) (c : Fin 3) (r : ℕ) : EReal := X (ix3 0 (row r) ⟨6 + c.val, by omega⟩)

theorem load1 (off : Fin 3 → ℕ) (k col : ℕ) (hk : k < 9) (hc : col < 16) (hoff : off = ![0, 256 * k, col]) (inb) (r : Fin 256) :
    (Rect.unit (s := S1x2304x16) off S1x256x1.size inb).toLoadRect.idx (ix3 0 r 0) = ix3 0 (row (256 * k + r.val)) ⟨col, hc⟩ := by
  subst hoff
  funext a
  refine Fin.ext ((congrArg (_ + ·) (one_mul _)).trans ?_)
  have h := row_val (256 * k + r.val) (by omega)
  match a with
  | ⟨0, _⟩ => rfl
  | ⟨1, _⟩ => exact h.symm
  | ⟨2, _⟩ => rfl

theorem load3 (off : Fin 3 → ℕ) (k : ℕ) (hk : k < 9) (hoff : off = ![0, 256 * k, 6]) (inb) (r : Fin 256) (c : Fin 3) :
    (Rect.unit (s := S1x2304x16) off S1x256x3.size inb).toLoadRect.idx (ix3 0 r c) = ix3 0 (row (256 * k + r.val)) ⟨6 + c.val, by omega⟩ := by
  subst hoff
  funext a
  refine Fin.ext ((congrArg (_ + ·) (one_mul _)).trans ?_)
  have h := row_val (256 * k + r.val) (by omega)
  match a with
  | ⟨0, _⟩ => rfl
  | ⟨1, _⟩ => exact h.symm
  | ⟨2, _⟩ => rfl

/-- The exponent of each splat of a chunk at each pixel. -/
theorem pay18_apply (v20 v45 : FVec Ideal S1x2304 .f32) (a b c d e : Vec Ideal S1x256x1 .f32) (r : Fin 256) (n : Fin 2304) :
    k0_pay18 v20 v45 a b c d e (ix2 r n) = power (a (ix3 0 r 0)) (b (ix3 0 r 0)) (c (ix3 0 r 0)) (d (ix3 0 r 0)) (e (ix3 0 r 0)) (v20 (ix2 0 n)) (v45 (ix2 0 n)) := by
  unfold k0_pay18
  simp only [subf_apply, mulf_apply, addf_apply, broadcast_apply]
  simp only [broadcastTo_1b_ab_apply, col_apply _ _ (show (256 : ℕ) ≠ 1 by decide), shapeCast_1ab_ab_apply]
  rfl

section
variable (X : S1x2304x16.Idx → EReal) (v20 : FVec Ideal S1x2304 .f32) (v44 : IVec S1x2304 32) (m : ℕ) (hm : m ≤ 2304) (hw : k0_chk1 (BitVec.ofNat 32 m))
  (k : Fin (k0_t1_loop (BitVec.ofNat 32 m)).trips) (acc : Acc Ideal) (n : Fin 2304)

include hm in
/-- A trip adds its 256 splats to the pair carried for a pixel. -/
theorem blockStep_apply (h1 : acc.1 (ix2 0 n) = lsum (logT X (v20 (ix2 0 n)) (k0_pay1 (F := Ideal) v44 (ix2 0 n))) (256 * k.val))
    (h2 : ∀ c, acc.2 (ix2 c n) = csum (opac X (v20 (ix2 0 n)) (k0_pay1 (F := Ideal) v44 (ix2 0 n))) (logT X (v20 (ix2 0 n)) (k0_pay1 (F := Ideal) v44 (ix2 0 n))) (colour X c) (256 * k.val)) :
    (blockStep X v20 v44 (BitVec.ofNat 32 m) hw k acc).1 (ix2 0 n) = lsum (logT X (v20 (ix2 0 n)) (k0_pay1 (F := Ideal) v44 (ix2 0 n))) (256 * (k.val + 1))
    ∧ ∀ c, (blockStep X v20 v44 (BitVec.ofNat 32 m) hw k acc).2 (ix2 c n)
        = csum (opac X (v20 (ix2 0 n)) (k0_pay1 (F := Ideal) v44 (ix2 0 n))) (logT X (v20 (ix2 0 n)) (k0_pay1 (F := Ideal) v44 (ix2 0 n))) (colour X c) (256 * (k.val + 1)) := by
  obtain ⟨o2, o3, o4, o5, o6, o7, o8⟩ := offs_eq m hm k
  have hk : k.val < 9 := by have := trip_le m hm k; omega
  unfold blockStep
  dsimp only
  generalize hp : k0_pay1 (F := Ideal) v44 = v45 at *
  generalize hv91 : k0_pay16 (F := Ideal) (fun x => X ((Rect.unit (s := S1x2304x16) (k0_off7 (BitVec.ofNat 32 m) k) S1x256x1.size (k0_off7_inb (BitVec.ofNat 32 m) hw k)).toLoadRect.idx x)) = v91
  generalize hv94 : k0_pay17 (F := Ideal) (fun x => X ((Rect.unit (s := S1x2304x16) (k0_off8 (BitVec.ofNat 32 m) k) S1x256x3.size (k0_off8_inb (BitVec.ofNat 32 m) hw k)).toLoadRect.idx x)) = v94
  generalize hv113 : k0_pay18 (F := Ideal) _ _ _ _ _ _ _ = v113
  have e91 : ∀ r : Fin 256, v91 (ix2 r 0) = X (ix3 0 (row (256 * k.val + r.val)) 5) := fun r => by
    rw [← hv91]; unfold k0_pay16; dsimp only
    rw [shapeCast_1ab_ab_apply, load1 _ k.val 5 hk (by decide) o7]; rfl
  have e94 : ∀ (r : Fin 256) (c : Fin 3), v94 (ix2 r c) = colour X c (256 * k.val + r.val) := fun r c => by
    rw [← hv94]; unfold k0_pay17; dsimp only
    rw [shapeCast_1ab_ab_apply, load3 _ k.val hk o8]; rfl
  have eA : ∀ r : Fin 256, alphaOf (v91 (ix2 r 0)) (v113 (ix2 r n)) = opac X (v20 (ix2 0 n)) (v45 (ix2 0 n)) (256 * k.val + r.val) := fun r => by
    rw [e91, ← hv113, pay18_apply, load1 _ k.val 0 hk (by decide) o2, load1 _ k.val 1 hk (by decide) o3, load1 _ k.val 2 hk (by decide) o4,
      load1 _ k.val 3 hk (by decide) o5, load1 _ k.val 4 hk (by decide) o6]; rfl
  have eL : ∀ r : Fin 256, Ideal.log (1 - alphaOf (v91 (ix2 r 0)) (v113 (ix2 r n))) = logT X (v20 (ix2 0 n)) (v45 (ix2 0 n)) (256 * k.val + r.val) := fun r => by
    rw [eA]; rfl
  generalize v20 (ix2 0 n) = PX at *
  generalize v45 (ix2 0 n) = PY at *
  have e7 := pay7_apply v91 v113 (fun j => logT X PX PY (256 * k.val + j)) n eL
  have es : 256 * (k.val + 1) = 256 * k.val + 256 := by ring
  refine ⟨?_, fun c => ?_⟩
  · show acc.1 (ix2 0 n) + extractStridedSlice S1x2304 ![255, 0] (k0_pay7 v91 v113 (Scalar.ofBits .f32 0x00000000#32)) slices_S256x2304_o255_0_S1x2304 (ix2 0 n)
      + extractStridedSlice S1x2304 ![255, 0] (k0_pay6 v91 v113 (Scalar.ofBits .f32 0x00000000#32)) slices_S256x2304_o255_0_S1x2304 (ix2 0 n) = _
    have hs : ∀ a : Fin 2, ((ix2 (255 : Fin 256) n : S256x2304.Idx) a).val = (![255, 0] : Fin 2 → ℕ) a + ((ix2 (0 : Fin 1) n : S1x2304.Idx) a).val := fun a => by
      match a with
      | ⟨0, _⟩ => rfl
      | ⟨1, _⟩ => exact (Nat.zero_add _).symm
    rw [extractStridedSlice_apply _ _ _ (ix2 0 n) (ix2 255 n) hs, extractStridedSlice_apply _ _ _ (ix2 0 n) (ix2 255 n) hs, e7, pay6_apply, eL, h1, es, lsum_add,
      Finset.sum_range_succ (fun i => logT X PX PY (256 * k.val + i)) 255, add_assoc]
    rfl
  · show acc.2 (ix2 c n) + FloatOps.matmul (F := Ideal) dot_S256x3_S256x2304_S3x2304_0_0_1_1_n_n _ v94 _ _ (ix2 c n) = _
    rw [Ideal.matmul_apply, ← Equiv.sum_comp (contrEquiv1 dot_S256x3_S256x2304_S3x2304_0_0_1_1_n_n 256 rfl rfl).symm, constant_apply, zero_word, zero_add, h2, es, csum_add]
    congr 1
    rw [← Fin.sum_univ_eq_sum_range (fun i => colour X c (256 * k.val + i) * (opac X PX PY (256 * k.val + i) * Ideal.exp (lsum (logT X PX PY) (256 * k.val + i)))) 256]
    refine Finset.sum_congr rfl fun j _ => ?_
    rw [lhsB, rhsB, e94]
    congr 1
    show k0_pay5 v91 v113 _ (ix2 j n) * Ideal.exp (broadcastTo S256x2304 acc.1 broadcasts_S1x2304_S256x2304 (ix2 j n) + k0_pay7 v91 v113 _ (ix2 j n)) = _
    rw [pay5_apply, eA, e7, broadcastTo_1b_ab_apply, h1, lsum_add]

end

end Cert.Composite

end
-- ==== Proof.Pixel.lean ====
module

public import proofs.«01_k».proof.Proof.Step
public import Idealize.ShloMosaic.Lib.Pointwise.ElementwiseCore

/-! # One pixel of a composited block over the extended reals

`resOf_apply`: pixel `n` of the block of band `b` is the sum of the list's colours as they reach the pixel, plus the
background behind what the list lets through. The pixel's column is `(2304 b + n) % 96` and its row is
`(2304 b + n) / 96` (`pixX_eq`, `pixY_eq`). -/

@[expose] public section

noncomputable section

namespace Cert.Composite

open Idealize.ShloMosaic Idealize.SL.Sem Idealize.ShloMosaic.ValueIdx
open Cert.KernelIdeal Cert.KernelIdeal.Gen

/-- A pixel coordinate as a number. -/
def coord (q : ℕ) : EReal := FloatOps.sitofp (F := Ideal) .f32 (BitVec.ofNat 32 q)

theorem msb_ofNat (a : ℕ) (ha : a < 2 ^ 31) : (BitVec.ofNat 32 a).msb = false := by
  rw [BitVec.msb_eq_false_iff_two_mul_lt]; simp; omega

theorem no_corner (a b : ℕ) (ha : a < 2 ^ 31) (hb : b < 2 ^ 31) (h0 : 0 < b) :
    ¬ IntOp.SDivCorner (BitVec.ofNat 32 a) (BitVec.ofNat 32 b) := by
  rintro (h | ⟨h, -⟩)
  · have := congrArg BitVec.toNat h; simp at this; omega
  · have hma := msb_ofNat a ha; rw [h] at hma; revert hma; decide

theorem vdiv_ofNat (a b : ℕ) (ha : a < 2 ^ 31) (hb : b < 2 ^ 31) (h0 : 0 < b) :
    IntOp.divsi .vector (BitVec.ofNat 32 a) (BitVec.ofNat 32 b) = BitVec.ofNat 32 (a / b) := by
  unfold IntOp.divsi
  rw [if_neg (no_corner a b ha hb h0), BitVec.sdiv_eq, msb_ofNat a ha, msb_ofNat b hb]
  have := Nat.div_le_self a b
  apply BitVec.eq_of_toNat_eq
  simp [BitVec.toNat_udiv, BitVec.toNat_ofNat]
  rw [Nat.mod_eq_of_lt (by omega), Nat.mod_eq_of_lt (by omega), Nat.mod_eq_of_lt (by omega)]

theorem vrem_ofNat (a b : ℕ) (ha : a < 2 ^ 31) (hb : b < 2 ^ 31) (h0 : 0 < b) :
    IntOp.remsi .vector (BitVec.ofNat 32 a) (BitVec.ofNat 32 b) = BitVec.ofNat 32 (a % b) := by
  unfold IntOp.remsi
  rw [if_neg (no_corner a b ha hb h0), BitVec.srem_eq, msb_ofNat a ha, msb_ofNat b hb]
  have := Nat.mod_le a b
  apply BitVec.eq_of_toNat_eq
  simp [BitVec.toNat_umod, BitVec.toNat_ofNat]
  rw [Nat.mod_eq_of_lt (show a < 4294967296 by omega), Nat.mod_eq_of_lt (show b < 4294967296 by omega), Nat.mod_eq_of_lt (show a % b < 4294967296 by omega)]

theorem not_neg (a : ℕ) (ha : a < 2 ^ 31) : IntOp.cmpi .slt (BitVec.ofNat 32 a) 0#32 = 0#1 := by
  have h := msb_ofNat a ha
  have : (BitVec.ofNat 32 a).slt 0#32 = false := by
    rw [BitVec.slt_zero_eq_msb, h]
  simp [IntOp.cmpi, this]

/-- The pixel's place in the image. -/
theorem pay22_apply (i : grid0.Coords) (n : Fin 2304) :
    k0_pay22 i (ix2 0 n) = BitVec.ofNat 32 (2304 * (i 0).val + n.val) := by
  unfold k0_pay22
  dsimp only
  rw [addi_apply, broadcast_apply, iota_single_apply]
  show BitVec.ofNat 32 n.val + BitVec.ofNat 32 (i 0).val * 2304#32 = _
  rw [show (2304#32 : BitVec 32) = BitVec.ofNat 32 2304 from rfl, ← BitVec.ofNat_mul, ← BitVec.ofNat_add]
  congr 1; ring

theorem pixX_eq (i : grid0.Coords) (n : Fin 2304) :
    k0_pay23 (F := Ideal) i (ix2 0 n) = coord ((2304 * (i 0).val + n.val) % 96) := by
  have hi : (i 0).val < 4 := (i 0).isLt
  unfold k0_pay23
  dsimp only
  rw [show Scalar.select (Scalar.cmpi .eq 96#32 0#32) 1#32 96#32 = BitVec.ofNat 32 96 by decide]
  simp only [sitofp_apply, select_apply, andi_apply, xori_apply, cmpi_apply, addi_apply, remsi_apply, broadcast_apply, pay22_apply]
  rw [vrem_ofNat _ _ (by omega) (by omega) (by omega)]
  have h : IntOp.cmpi .slt (BitVec.ofNat 32 ((2304 * (i 0).val + n.val) % 96)) 0#32 = 0#1 := not_neg _ (by omega)
  rw [h]
  rw [show broadcastTo S1x2304 (broadcast S1x2304 (Scalar.cmpi .slt (BitVec.ofNat 32 96) 0#32)) broadcasts_S1x2304_S1x2304 (ix2 0 n) = 0#1 from by
    show Scalar.cmpi .slt (BitVec.ofNat 32 96) 0#32 = 0#1
    decide]
  rw [show IntOp.andi (IntOp.xori 0#1 0#1) (IntOp.cmpi .ne (BitVec.ofNat 32 ((2304 * (i 0).val + n.val) % 96)) 0#32) = 0#1 from by
    simp [IntOp.andi, IntOp.xori]]
  rfl

theorem pixY_eq (i : grid0.Coords) (n : Fin 2304) :
    k0_pay1 (F := Ideal) (k0_pay24 i) (ix2 0 n) = coord ((2304 * (i 0).val + n.val) / 96) := by
  have hi : (i 0).val < 4 := (i 0).isLt
  have hn := n.isLt
  unfold k0_pay1 k0_pay24
  dsimp only
  simp only [sitofp_apply, select_apply, andi_apply, cmpi_apply, subi_apply, divsi_apply, remsi_apply, broadcast_apply, extui_apply, pay22_apply]
  rw [show (96#32 : BitVec 32) = BitVec.ofNat 32 96 from rfl, vdiv_ofNat _ _ (by omega) (by omega) (by omega), vrem_ofNat _ _ (by omega) (by omega) (by omega),
    not_neg _ (by omega)]
  by_cases h0 : 2304 * (i 0).val + n.val = 0
  · rw [h0]; rfl
  · have hp : IntOp.cmpi .sgt (BitVec.ofNat 32 (2304 * (i 0).val + n.val)) 0#32 = 1#1 := by
      refine IntOp.cmpi_sgt.2 ?_
      rw [BitVec.toInt_eq_toNat_of_msb (msb_ofNat (2304 * (i 0).val + n.val) (by omega)), BitVec.toNat_ofNat, Nat.mod_eq_of_lt (by omega)]
      show (0 : ℤ) < _
      omega
    rw [hp]
    rw [show IntOp.cmpi .ne (IntOp.subi (BitVec.setWidth 32 1#1) (BitVec.setWidth 32 0#1))
      (Scalar.subi (Scalar.extui (Scalar.cmpi .sgt 96#32 0#32)) (Scalar.extui (Scalar.cmpi .slt 96#32 0#32))) = 0#1 by decide]
    rw [show ∀ x : BitVec 1, IntOp.andi 0#1 x = 0#1 from fun x => by simp [IntOp.andi]]
    rfl

section
variable (i : grid0.Coords) (X : S1x2304x16.Idx → EReal) (B : S3x1.Idx → EReal) (m : ℕ) (hm : m ≤ 2304) (hw : k0_chk1 (BitVec.ofNat 32 m))

include hm in
/-- The pair carried for a pixel after `j` trips. -/
theorem blockAt_apply (v20 : FVec Ideal S1x2304 .f32) (v44 : IVec S1x2304 32) (n : Fin 2304) (j : ℕ) (hj : j ≤ (k0_t1_loop (BitVec.ofNat 32 m)).trips) :
    (blockAt X v20 v44 (BitVec.ofNat 32 m) hw (k0_pay3, k0_pay4) j).1 (ix2 0 n) = lsum (logT X (v20 (ix2 0 n)) (k0_pay1 (F := Ideal) v44 (ix2 0 n))) (256 * j)
    ∧ ∀ c, (blockAt X v20 v44 (BitVec.ofNat 32 m) hw (k0_pay3, k0_pay4) j).2 (ix2 c n)
        = csum (opac X (v20 (ix2 0 n)) (k0_pay1 (F := Ideal) v44 (ix2 0 n))) (logT X (v20 (ix2 0 n)) (k0_pay1 (F := Ideal) v44 (ix2 0 n))) (colour X c) (256 * j) := by
  induction j with
  | zero => exact ⟨zero_word, fun c => zero_word⟩
  | succ j ih =>
    obtain ⟨h1, h2⟩ := ih (by omega)
    have e : blockAt X v20 v44 (BitVec.ofNat 32 m) hw (k0_pay3, k0_pay4) (j + 1)
        = blockStep X v20 v44 (BitVec.ofNat 32 m) hw ⟨j, hj⟩ (blockAt X v20 v44 (BitVec.ofNat 32 m) hw (k0_pay3, k0_pay4) j) := by
      rw [blockAt]; exact dif_pos hj
    rw [e]
    exact blockStep_apply X v20 v44 m hm hw ⟨j, hj⟩ _ n h1 h2

/-- The block's last step adds the background, weighted by what the list lets through. -/
theorem pay15_apply (a : FVec Ideal S1x2304 .f32) (b : FVec Ideal S3x2304 .f32) (B : Vec Ideal S3x1 .f32) (c : Fin 3) (n : Fin 2304) :
    k0_pay15 a b B (ix2 c n) = b (ix2 c n) + B (ix2 c 0) * Ideal.exp (a (ix2 0 n)) := by
  unfold k0_pay15
  rw [addf_apply, mulf_apply, col_apply _ _ (show (3 : ℕ) ≠ 1 by decide), broadcastTo_1b_ab_apply]
  rfl

/-- The pixel's colour after `k` rows of the list, the background behind them. -/
def pixel (A L G : ℕ → EReal) (bg : EReal) (k : ℕ) : EReal := csum A L G k + bg * Ideal.exp (lsum L k)

include hm in
/-- A pixel of the composited block. -/
theorem resOf_apply (c : Fin 3) (n : Fin 2304) :
    resOf (F := Ideal) i X B (BitVec.ofNat 32 m) hw (ix2 c n)
      = pixel (opac X (coord ((2304 * (i 0).val + n.val) % 96)) (coord ((2304 * (i 0).val + n.val) / 96)))
          (logT X (coord ((2304 * (i 0).val + n.val) % 96)) (coord ((2304 * (i 0).val + n.val) / 96))) (colour X c) (B (ix2 c 0)) (256 * ((m + 255) / 256)) := by
  obtain ⟨h1, h2⟩ := blockAt_apply X m hm hw (k0_pay23 (F := Ideal) i) (k0_pay24 i) n _ le_rfl
  rw [pixX_eq, pixY_eq] at h1 h2
  rw [← trips1_eq m hm]
  show k0_pay15 (F := Ideal) (blockAt X _ _ _ hw _ _).1 (blockAt X _ _ _ hw _ _).2 B (ix2 c n) = _
  rw [pay15_apply, h1, h2 c]
  rfl

end

end Cert.Composite

end
-- ==== Proof.Out.lean ====
module

public import proofs.«01_k».proof.Proof.Pixel
public import proofs.«01_k».proof.Proof.Pre
public import proofs.«01_k».proof.Proof.Gen.KernelIdeal.Frame
public import Idealize.ShloMosaic.Lib.Pipeline.ValueKit.Geometry

/-! # The image the compositing launch leaves

`image` says what every pixel is: its `pixel` over its band's list. `point_val`: every grid point writes its part of it,
and `covers`: together they write all of it. -/

@[expose] public section

noncomputable section

namespace Cert.Composite

open Idealize.ShloMosaic Idealize.SL.Sem Idealize.ShloMosaic.ValueIdx
open Cert.KernelIdeal Cert.KernelIdeal.Gen

/-- Band `b`'s list of splats. -/
def band (x1 : S4x2304x16.Idx → EReal) (b : Fin 4) : S1x2304x16.Idx → EReal := fun y => x1 (ix3 b (y 1) (y 2))

/-- The band that pixel `q` of the image lies in. -/
def bandAt (q : Fin 9216) : Fin 4 := ⟨q.val / 2304, by omega⟩

/-- The image: at every pixel the colours of its band's list, over as many chunks of 256 rows as hold its count, and the background. -/
def image (x0 : S4.Idx → BitVec 32) (x1 : S4x2304x16.Idx → EReal) (x2 : S3x1.Idx → EReal) (c : Fin 3) (q : Fin 9216) : EReal :=
  pixel (opac (band x1 (bandAt q)) (coord (q.val % 96)) (coord (q.val / 96))) (logT (band x1 (bandAt q)) (coord (q.val % 96)) (coord (q.val / 96)))
    (colour (band x1 (bandAt q)) c) (x2 (ix2 c 0)) (256 * (((x0 (ix1 (bandAt q))).toNat + 255) / 256))

theorem resOf_word (i : grid0.Coords) (X : S1x2304x16.Idx → EReal) (B : S3x1.Idx → EReal) (w : BitVec 32) (hw : k0_chk1 w) (k : ℕ) (e : w = BitVec.ofNat 32 k) (h : k ≤ 2304)
    (c : Fin 3) (n : Fin 2304) :
    resOf (F := Ideal) i X B w hw (ix2 c n)
      = pixel (opac X (coord ((2304 * (i 0).val + n.val) % 96)) (coord ((2304 * (i 0).val + n.val) / 96)))
          (logT X (coord ((2304 * (i 0).val + n.val) % 96)) (coord ((2304 * (i 0).val + n.val) / 96))) (colour X c) (B (ix2 c 0)) (256 * ((k + 255) / 256)) := by
  subst e
  exact resOf_apply i X B k h hw c n

theorem off1_eq (i : grid0.Coords) : k0_off1 i = ![(i 0).val] := by
  have hi : (i 0).val < 4 := (i 0).isLt
  funext a
  match a with
  | ⟨0, _⟩ =>
    show (BitVec.ofNat 32 (i 0).val).toNat = (i 0).val
    rw [BitVec.toNat_ofNat, Nat.mod_eq_of_lt (by omega)]

variable (m : (ℓ : Loc nD τ sig) → Buf (Elt Ideal) ℓ)

theorem word_eq (c : Dev nD) (i : grid0.Coords) :
    tbM0_0.view.readAt (Elt Ideal) (Rect.unit (s := S4) (k0_off1 i) S1.size (k0_off1_inb i)).toLoadRect (tbl m 0) (Shape.Idx.first (numel1_S1.symm ▸ Nat.one_pos))
      = m ((c.tc : Thread nD τ).loc main_arg0) (ix1 ⟨(i 0).val, (i 0).isLt⟩) := by
  obtain rfl : c = 0 := Subsingleton.elim _ _
  refine congrArg (m (((0 : Dev nD).tc : Thread nD τ).loc main_arg0)) (funext fun a => Fin.ext ?_)
  match a with
  | ⟨0, _⟩ =>
    show k0_off1 i 0 + 1 * (Shape.Idx.first (s := S1) _ 0).val = (i 0).val
    rw [off1_eq]
    have : (Shape.Idx.first (s := S1) (numel1_S1.symm ▸ Nat.one_pos) 0).val < 1 := (Shape.Idx.first (s := S1) (numel1_S1.symm ▸ Nat.one_pos) 0).isLt
    show (i 0).val + 1 * _ = _
    omega

section
variable (hO : Ok m)

theorem idx : ∀ t : Fin grid0.N, cc0_transform_0 (grid0.coords t) = ![(grid0.coords t 0).val, 0, 0] ∧ cc0_transform_1 (grid0.coords t) = ![0, 0]
    ∧ cc0_transform_2 (grid0.coords t) = ![0, (grid0.coords t 0).val] := by decide +kernel

theorem iblk0_eq (c : Dev nD) (t : Fin (cfgM m hO).N) (y : S1x2304x16.Idx) :
    iblk m hO c 0 t y = band (m ((c.tc : Thread nD τ).loc main_arg1)) ⟨(grid0.coords t 0).val, (grid0.coords t 0).isLt⟩ y := by
  refine congrArg (m ((c.tc : Thread nD τ).loc main_arg1)) (funext fun a => Fin.ext ?_)
  have h := (idx t).1
  have h0 : (y 0).val < 1 := (y 0).isLt
  match a with
  | ⟨0, _⟩ => show cc0_transform_0 (grid0.coords t) 0 * 1 + 1 * (y 0).val = (grid0.coords t 0).val; rw [h]; show (grid0.coords t 0).val * 1 + 1 * (y 0).val = _; omega
  | ⟨1, _⟩ => show cc0_transform_0 (grid0.coords t) 1 * 2304 + 1 * (y 1).val = (y 1).val; rw [h]; show 0 * 2304 + 1 * (y 1).val = _; omega
  | ⟨2, _⟩ => show cc0_transform_0 (grid0.coords t) 2 * 16 + 1 * (y 2).val = (y 2).val; rw [h]; show 0 * 16 + 1 * (y 2).val = _; omega

theorem iblk1_eq (c : Dev nD) (t : Fin (cfgM m hO).N) (y : S3x1.Idx) :
    iblk m hO c 1 t y = m ((c.tc : Thread nD τ).loc main_arg2) y := by
  refine congrArg (m ((c.tc : Thread nD τ).loc main_arg2)) (funext fun a => Fin.ext ?_)
  have h := (idx t).2.1
  match a with
  | ⟨0, _⟩ => show cc0_transform_1 (grid0.coords t) 0 * 3 + 1 * (y 0).val = (y 0).val; rw [h]; show 0 * 3 + 1 * (y 0).val = _; omega
  | ⟨1, _⟩ => show cc0_transform_1 (grid0.coords t) 1 * 1 + 1 * (y 1).val = (y 1).val; rw [h]; show 0 * 1 + 1 * (y 1).val = _; omega

variable (hc : ∀ (c : Dev nD) b, (m ((c.tc : Thread nD τ).loc main_arg0) b).toNat ≤ 2304) (hH : Hyps m hO)

include hc in
/-- What the body leaves at a point, over the arguments. -/
theorem outs_eq (c : Dev nD) (t : Fin (cfgM m hO).N) (p : Fin 3) (n : Fin 2304) (q : Fin 9216) (hq : q.val = 2304 * (grid0.coords t 0).val + n.val) :
    outsAt0 m hO hH c t (ix2 p n)
      = image (m ((c.tc : Thread nD τ).loc main_arg0)) (m ((c.tc : Thread nD τ).loc main_arg1)) (m ((c.tc : Thread nD τ).loc main_arg2)) p q := by
  have hb : bandAt q = ⟨(grid0.coords t 0).val, (grid0.coords t 0).isLt⟩ := Fin.ext (by show q.val / 2304 = (grid0.coords t 0).val; rw [hq]; have := n.isLt; omega)
  unfold outsAt0
  refine (congrFun (out_eq c _ _ _ _ _ _ _ _ _ _ _) (ix2 p n)).trans ?_
  have e0 : (iblk m hO c 0 t : S1x2304x16.Idx → EReal) = band (m ((c.tc : Thread nD τ).loc main_arg1)) ⟨(grid0.coords t 0).val, (grid0.coords t 0).isLt⟩ := funext (iblk0_eq m hO c t)
  have e1 : (iblk m hO c 1 t : S3x1.Idx → EReal) = m ((c.tc : Thread nD τ).loc main_arg2) := funext (iblk1_eq m hO c t)
  have ew := word_eq m c (grid0.coords t)
  have ek : m ((c.tc : Thread nD τ).loc main_arg0) (ix1 ⟨(grid0.coords t 0).val, (grid0.coords t 0).isLt⟩)
      = BitVec.ofNat 32 (BitVec.toNat (m ((c.tc : Thread nD τ).loc main_arg0) (ix1 ⟨(grid0.coords t 0).val, (grid0.coords t 0).isLt⟩))) := by
    generalize m ((c.tc : Thread nD τ).loc main_arg0) (ix1 ⟨(grid0.coords t 0).val, (grid0.coords t 0).isLt⟩) = w
    exact BitVec.eq_of_toNat_eq (by rw [BitVec.toNat_ofNat, Nat.mod_eq_of_lt (BitVec.isLt w)])
  refine (resOf_word _ _ _ _ _ _ (ew.trans ek) (hc c _) p n).trans ?_
  rw [e0, e1]
  unfold image
  rw [hb, hq]

include hc in
theorem point (c : Dev nD) (t : Fin (cfgM m hO).N) (y : S3x2304.Idx) (e : S3x9216.Idx) (he : (((cfgM m hO).win 2).blk t).view.emb y = e) :
    outsAt0 m hO hH c t y
      = image (m ((c.tc : Thread nD τ).loc main_arg0)) (m ((c.tc : Thread nD τ).loc main_arg1)) (m ((c.tc : Thread nD τ).loc main_arg2)) (e 0) (e 1) := by
  have h := (idx t).2.2
  have h0 : e 0 = y 0 := Fin.ext (by
    rw [← he]
    show cc0_transform_2 (grid0.coords t) 0 * 3 + 1 * (y 0).val = (y 0).val
    rw [h]; show 0 * 3 + 1 * (y 0).val = _; omega)
  have h1 : (e 1).val = 2304 * (grid0.coords t 0).val + (y 1).val := by
    rw [← he]
    show cc0_transform_2 (grid0.coords t) 1 * 2304 + 1 * (y 1).val = _
    rw [h]; show (grid0.coords t 0).val * 2304 + 1 * (y 1).val = _; omega
  rw [h0]
  refine Eq.trans ?_ (outs_eq m hO hc hH c t (y 0) (y 1) (e 1) h1)
  exact congrArg (outsAt0 m hO hH c t) (eq_ix2 y)

theorem point_val : ∀ t : Fin grid0.N, (grid0.coords t 0).val = t.val := by decide +kernel

/-- The four blocks cover the array. -/
theorem covers : ((cfgM m hO).win 2).Covers := by
  refine ⟨fun a => ?_, fun β => ?_⟩
  · match a with
    | ⟨0, _⟩ => exact (by decide : 0 < 3)
    | ⟨1, _⟩ => exact (by decide : 0 < 2304)
  · have b1 : (β ⟨1, Nat.one_lt_two⟩).val < (9216 + 2304 - 1) / 2304 := (β ⟨1, Nat.one_lt_two⟩).isLt
    have hN : (β ⟨1, Nat.one_lt_two⟩).val < grid0.N := by rw [N_0]; omega
    refine ⟨⟨(β ⟨1, Nat.one_lt_two⟩).val, hN⟩, flush0_2 (adm m hO) _, fun a => ⟨?_, Or.inl rfl⟩⟩
    have h := (idx ⟨(β ⟨1, Nat.one_lt_two⟩).val, hN⟩).2.2
    match a with
    | ⟨0, _⟩ =>
      have b0 : (β ⟨0, Nat.two_pos⟩).val < (3 + 3 - 1) / 3 := (β ⟨0, Nat.two_pos⟩).isLt
      show cc0_transform_2 (grid0.coords ⟨(β ⟨1, Nat.one_lt_two⟩).val, hN⟩) 0 = (β ⟨0, Nat.two_pos⟩).val
      rw [h]
      show 0 = (β ⟨0, Nat.two_pos⟩).val
      omega
    | ⟨1, _⟩ =>
      show cc0_transform_2 (grid0.coords ⟨(β ⟨1, Nat.one_lt_two⟩).val, hN⟩) 1 = (β ⟨1, Nat.one_lt_two⟩).val
      rw [h]
      exact point_val _

end

end Cert.Composite

end
-- ==== Proof.Final.lean ====
module

public import proofs.«01_k».proof.Proof.Out

/-! # The whole image -/

@[expose] public section

noncomputable section

namespace Cert.Composite

open Idealize.ShloMosaic Idealize.SL.Sem Idealize.ShloMosaic.ValueIdx
open Cert.KernelIdeal Cert.KernelIdeal.Gen

variable (m : (ℓ : Loc nD τ sig) → Buf (Elt Ideal) ℓ) (hO : Ok m) (hc : ∀ (c : Dev nD) b, (m ((c.tc : Thread nD τ).loc main_arg0) b).toNat ≤ 2304) (hH : Hyps m hO)

/-- The image, as the contents of the result array. -/
def imageBuf (c : Dev nD) : S3x9216.Idx → EReal :=
  fun j => image (m ((c.tc : Thread nD τ).loc main_arg0)) (m ((c.tc : Thread nD τ).loc main_arg1)) (m ((c.tc : Thread nD τ).loc main_arg2)) (j 0) (j 1)

include hc in
/-- After the run the result array is the image. -/
theorem final (c : Dev nD) :
    (dats m hO hH 0 c).arrAt 2 (cfgM m hO).N = imageBuf m c := by
  refine (dats m hO hH 0 c).arrAt_eq_of_covers 2 (imageBuf m c) (covers m hO) ?_ (Memref.isWhole_whole _)
  intro t _ y
  have h : outsAt0 m hO hH c t y = imageBuf m c ((((cfgM m hO).win 2).blk t).view.emb y) := point m hO hc hH c t y _ rfl
  rw [after0_2]
  revert h
  generalize outsAt0 m hO hH c t = f
  exact fun h => h

end Cert.Composite

end
-- ==== Proof.Rows.lean ====
module

public import proofs.«01_k».proof.Proof.Pre
public import Idealize.ShloMosaic.Lib.ValueIdx
public import Idealize.ShloMosaic.Lib.ValueLayout
public import Idealize.ShloMosaic.PureOps.Ideal.Laws

/-! # How `lists_fit` fills a list's last chunk -/

@[expose] public section

noncomputable section

namespace Cert.Composite

open Idealize.ShloMosaic Idealize.ShloMosaic.ValueIdx
open Cert.Pre_lists_fit Cert.Pre_lists_fit.Gen

theorem small_toInt (n : ℕ) (h : n ≤ 2304) (w : BitVec 32) (e : w.toNat = n) : w.toInt = n := by
  rw [BitVec.toInt_eq_toNat_cond, e, if_pos (by omega)]

theorem chunk_word (k : Fin 9) : (IntOp.muli 256#32 (BitVec.ofNat 32 k.val)).toNat = 256 * k.val := by
  have := k.isLt
  show (256#32 * BitVec.ofNat 32 k.val).toNat = _
  rw [BitVec.toNat_mul, BitVec.toNat_ofNat, BitVec.toNat_ofNat, Nat.mod_eq_of_lt (a := k.val) (by omega)]
  omega

theorem filled_word (k : Fin 9) (r : Fin 256) :
    (IntOp.addi (IntOp.muli 256#32 (BitVec.ofNat 32 k.val)) (BitVec.ofNat 32 r.val)).toNat = 256 * k.val + r.val := by
  have := k.isLt
  have := r.isLt
  show (IntOp.muli 256#32 (BitVec.ofNat 32 k.val) + BitVec.ofNat 32 r.val).toNat = _
  rw [BitVec.toNat_add, chunk_word, BitVec.toNat_ofNat]
  omega

theorem oeq_zero (x : EReal) (h : FloatOps.cmpf (F := Ideal) (φ := .f32) .oeq x (Ideal.ofBits .f32 0x00000000#32) = 1#1) : x = 0 := by
  rw [Ideal.ofBits_zero_f32] at h
  change BitVec.ofBool (decide (x = 0)) = 1#1 at h
  by_contra e
  rw [decide_eq_false e] at h
  exact absurd h (by decide)

section
variable (x0 : IVec Cert.Pre_lists_fit.S4 32) (x1 : FVec Ideal Cert.Pre_lists_fit.S4x2304x16 .f32) (x2 : FVec Ideal Cert.Pre_lists_fit.S3x1 .f32)
  (h : Cert.Pre_lists_fit.fn (F := Ideal) x0 x1 x2 = fun _ => 1#1)

include h in
/-- Row `r` of chunk `k` is below its list's count, or its chunk starts at or after the count, or its opacity is zero. -/
theorem row_cases (b : Fin 4) (k : Fin 9) (r : Fin 256) :
    256 * k.val + r.val < (x0 (ix1 b)).toNat ∨ (x0 (ix1 b)).toNat ≤ 256 * k.val
      ∨ x1 (ix3 b ⟨256 * k.val + r.val, by omega⟩ 5) = 0 := by
  have hc := count_le x0 x1 x2 h (ix1 b)
  have e := congrFun h (fun a => a.elim0)
  have e1 := (IntOp.andi_eq_one.1 e).2
  have e2 := Host.reduce_andi_all _ _ _ _ _ e1 (ix3 b k r)
  have eb : broadcastInDim S4x9x256 ![0, 1, 2] Facts.bcast_S4x1x1_S4x9x256_0_1_2 (broadcastInDim S4x1x1 ![0] Facts.bcast_S4_S4x1x1_0 x0) (ix3 b k r) = x0 (ix1 b) := by
    rw [broadcastInDim_apply _ _ _ _ (ix3 b 0 0) (fun a => match a with | ⟨0, _⟩ => rfl | ⟨1, _⟩ => rfl | ⟨2, _⟩ => rfl),
      broadcastInDim_apply _ _ _ _ (ix1 b) (fun a => match a with | ⟨0, _⟩ => rfl)]
  have eo : shapeCast S4x9x256 (shapeCast S4x2304 (extractStridedSlice S4x2304x1 ![0, 0, 5] x1 Facts.slices_S4x2304x16_S4x2304x1_0_0_5) Facts.shapeCasts_S4x2304x1_S4x2304) Facts.shapeCasts_S4x2304_S4x9x256 (ix3 b k r)
      = x1 (ix3 b ⟨256 * k.val + r.val, by omega⟩ 5) := by
    rw [shapeCast_apply _ _ _ (ix2 b ⟨256 * k.val + r.val, by omega⟩) (by
        rw [Shape.rowMajor_val_three, Shape.rowMajor_val_two]
        show b.val * 2304 + (256 * k.val + r.val) = (b.val * 9 + k.val) * 256 + r.val
        omega),
      shapeCast_apply _ _ _ (ix3 b ⟨256 * k.val + r.val, by omega⟩ 0) (by
        rw [Shape.rowMajor_val_three, Shape.rowMajor_val_two]
        show (b.val * 2304 + (256 * k.val + r.val)) * 1 + 0 = b.val * 2304 + (256 * k.val + r.val)
        omega),
      extractStridedSlice_apply _ _ _ _ (ix3 b ⟨256 * k.val + r.val, by omega⟩ 5) (fun a => match a with
        | ⟨0, _⟩ => (Nat.zero_add _).symm
        | ⟨1, _⟩ => (Nat.zero_add _).symm
        | ⟨2, _⟩ => rfl)]
  rcases IntOp.ori_eq_one.1 e2 with e3 | e3
  · rcases IntOp.ori_eq_one.1 e3 with e4 | e4
    · left
      have e5 := IntOp.cmpi_slt.1 e4
      rw [eb] at e5
      change (IntOp.addi (IntOp.muli 256#32 (BitVec.ofNat 32 k.val)) (BitVec.ofNat 32 r.val)).toInt < _ at e5
      rw [small_toInt _ hc _ rfl, small_toInt (256 * k.val + r.val) (by omega) _ (filled_word k r)] at e5
      exact_mod_cast e5
    · right; left
      have e5 := IntOp.cmpi_sge.1 e4
      rw [eb] at e5
      change _ ≤ (IntOp.muli 256#32 (BitVec.ofNat 32 k.val)).toInt at e5
      rw [small_toInt _ hc _ rfl, small_toInt (256 * k.val) (by omega) _ (chunk_word k)] at e5
      exact_mod_cast e5
  · right; right
    rw [← eo]
    exact oeq_zero _ e3

end

end Cert.Composite

end
-- ==== Proof.RefAlpha.lean ====
module

public import proofs.«01_k».proof.Proof.Pixel
public import proofs.«01_k».proof.Proof.Gen.ReferenceIdeal.Read

/-! # The opacities of the reference -/

@[expose] public section

noncomputable section

namespace Cert.Composite.Ref

open Idealize.ShloMosaic Idealize.ShloMosaic.ValueIdx
open Cert.ReferenceIdeal Cert.ReferenceIdeal.Gen Cert.ReferenceIdeal.Read

variable (x0 : (⟨S4, .i32⟩ : BufTy).Contents (Elt Ideal)) (x1 : (⟨S4x2304x16, .f32⟩ : BufTy).Contents (Elt Ideal))

/-- A list's column, read through the slice and the reshape. -/
theorem column {j : Fin 16} (i : S4x2304x16.Idx) (b : Fin 4) (r : Fin 2304) (e0 : (i 0).val = (b.val * 2304 + r.val) / 2304)
    (e1 : (i 1).val = (b.val * 2304 + r.val) / 1 % 2304) (e2 : (i 2).val = j.val) : x1 i = x1 (ix3 b r j) := by
  have := r.isLt
  refine congrArg x1 (funext fun a => Fin.ext ?_)
  match a with
  | ⟨0, _⟩ => show (i 0).val = b.val; omega
  | ⟨1, _⟩ => show (i 1).val = r.val; omega
  | ⟨2, _⟩ => exact e2

theorem v1_at (b : Fin 4) (r : Fin 2304) : val_main_v1 (F := Ideal) x1 (ix2 b r) = x1 (ix3 b r 0) := by
  rw [val_main_v1_apply, val_main_v0_apply]; exact column x1 _ b r rfl rfl rfl

theorem v3_at (b : Fin 4) (r : Fin 2304) : val_main_v3 (F := Ideal) x1 (ix2 b r) = x1 (ix3 b r 1) := by
  rw [val_main_v3_apply, val_main_v2_apply]; exact column x1 _ b r rfl rfl rfl

theorem v5_at (b : Fin 4) (r : Fin 2304) : val_main_v5 (F := Ideal) x1 (ix2 b r) = x1 (ix3 b r 2) := by
  rw [val_main_v5_apply, val_main_v4_apply]; exact column x1 _ b r rfl rfl rfl

theorem v7_at (b : Fin 4) (r : Fin 2304) : val_main_v7 (F := Ideal) x1 (ix2 b r) = x1 (ix3 b r 3) := by
  rw [val_main_v7_apply, val_main_v6_apply]; exact column x1 _ b r rfl rfl rfl

theorem v9_at (b : Fin 4) (r : Fin 2304) : val_main_v9 (F := Ideal) x1 (ix2 b r) = x1 (ix3 b r 4) := by
  rw [val_main_v9_apply, val_main_v8_apply]; exact column x1 _ b r rfl rfl rfl

theorem v16_at (b : Fin 4) (r : Fin 2304) : val_main_v16 (F := Ideal) x1 (ix2 b r) = x1 (ix3 b r 5) := by
  rw [val_main_v16_apply, val_main_v15_apply]; exact column x1 _ b r rfl rfl rfl

theorem v10_at (b : Fin 4) (r : Fin 2304) (c : Fin 3) : val_main_v10 (F := Ideal) x1 (ix3 b r c) = x1 (ix3 b r ⟨6 + c.val, by omega⟩) := by
  rw [val_main_v10_apply]
  refine congrArg x1 (funext fun a => Fin.ext ?_)
  match a with
  | ⟨0, _⟩ => rfl
  | ⟨1, _⟩ => rfl
  | ⟨2, _⟩ => rfl

theorem v22_at (b : Fin 4) (n : Fin 2304) : val_main_v22 (F := Ideal) (ix2 b n) = coord ((b.val * 2304 + n.val) % 96) := by
  rw [val_main_v22_apply, val_main_v21_apply]; rfl

theorem v23_at (b : Fin 4) (n : Fin 2304) : val_main_v23 (F := Ideal) (ix2 b n) = coord ((b.val * 2304 + n.val) / 96) := by
  rw [val_main_v23_apply, val_main_v20_apply]; rfl

/-- The opacity of row `r`, zero from the list's count on. -/
theorem v17_at (b : Fin 4) (r : Fin 2304) (hc : (x0 (ix1 b)).toNat ≤ 2304) :
    val_main_v17 (F := Ideal) x0 x1 (ix2 b r) = if r.val < (x0 (ix1 b)).toNat then x1 (ix3 b r 5) else 0 := by
  have e : val_main_v14 (F := Ideal) x0 (ix2 b r) = BitVec.ofBool (decide (r.val < (x0 (ix1 b)).toNat)) := by
    rw [val_main_v14_apply, val_main_v13_apply, val_main_v12_apply]
    have ei : idx_main_v12 (idx_main_v13 (ix2 b r)) = ix1 b := funext fun a => match a with | ⟨0, _⟩ => rfl
    rw [ei]
    show BitVec.ofBool ((BitVec.ofNat 32 r.val).slt (x0 (ix1 b))) = _
    generalize x0 (ix1 b) = w at hc
    have := r.isLt
    rw [BitVec.slt_eq_decide]
    congr 2
    rw [BitVec.toInt_eq_toNat_cond, BitVec.toInt_eq_toNat_cond, BitVec.toNat_ofNat, Nat.mod_eq_of_lt (by omega), if_pos (by omega), if_pos (by omega)]
    simp
  rw [val_main_v17_apply, e, v16_at, val_main_call0_v1_apply, val_main_call0_v0_apply, val_main_cst_apply]
  show (if BitVec.ofBool (decide _) = 1#1 then _ else Ideal.ofBits .f32 0x00000000#32) = _
  rw [zero_word]
  by_cases h : r.val < (x0 (ix1 b)).toNat <;> simp [h]

theorem spread_row (i : S4x2304.Idx) (b : Fin 4) (r : Fin 2304) (e0 : (i 0).val = b.val) (e1 : (i 1).val = r.val) : i = ix2 b r := by
  funext a
  match a with
  | ⟨0, _⟩ => exact Fin.ext e0
  | ⟨1, _⟩ => exact Fin.ext e1

variable (b : Fin 4) (r n : Fin 2304)

theorem v28_at : val_main_v28 (F := Ideal) x1 (ix3 b r n) = coord ((b.val * 2304 + n.val) % 96) - x1 (ix3 b r 0) := by
  rw [val_main_v28_apply, val_main_v26_apply, val_main_v24_apply, val_main_v27_apply, val_main_v25_apply,
    spread_row (idx_main_v24 _) b n rfl rfl, spread_row (idx_main_v25 _) b r rfl rfl, v22_at, v1_at]
  rfl

theorem v33_at : val_main_v33 (F := Ideal) x1 (ix3 b r n) = coord ((b.val * 2304 + n.val) / 96) - x1 (ix3 b r 1) := by
  rw [val_main_v33_apply, val_main_v31_apply, val_main_v29_apply, val_main_v32_apply, val_main_v30_apply,
    spread_row (idx_main_v29 _) b n rfl rfl, spread_row (idx_main_v30 _) b r rfl rfl, v23_at, v3_at]
  rfl

/-- The exponent. -/
theorem v49_at : val_main_v49 (F := Ideal) x1 (ix3 b r n)
    = power (x1 (ix3 b r 0)) (x1 (ix3 b r 1)) (x1 (ix3 b r 2)) (x1 (ix3 b r 3)) (x1 (ix3 b r 4)) (coord ((b.val * 2304 + n.val) % 96)) (coord ((b.val * 2304 + n.val) / 96)) := by
  rw [val_main_v49_apply, val_main_v44_apply, val_main_v42_apply, val_main_v37_apply, val_main_v36_apply, val_main_v41_apply, val_main_v40_apply,
    val_main_v48_apply, val_main_v47_apply, v28_at, v33_at, val_main_v35_apply, val_main_v34_apply, val_main_v39_apply, val_main_v38_apply, val_main_v46_apply, val_main_v45_apply,
    spread_row (idx_main_v34 _) b r rfl rfl, spread_row (idx_main_v38 _) b r rfl rfl, spread_row (idx_main_v45 _) b r rfl rfl, v5_at, v7_at, v9_at,
    val_main_v43_apply, val_main_cst_0_apply]
  rfl

/-- The opacity of a row at a pixel. -/
theorem v60_at : val_main_v60 (F := Ideal) x0 x1 (ix3 b r n)
    = alphaOf (val_main_v17 (F := Ideal) x0 x1 (ix2 b r))
        (power (x1 (ix3 b r 0)) (x1 (ix3 b r 1)) (x1 (ix3 b r 2)) (x1 (ix3 b r 3)) (x1 (ix3 b r 4)) (coord ((b.val * 2304 + n.val) % 96)) (coord ((b.val * 2304 + n.val) / 96))) := by
  have e57 : val_main_v57 (F := Ideal) x0 x1 (ix3 b r n) = min cMax (val_main_v17 (F := Ideal) x0 x1 (ix2 b r) * Ideal.exp (min (power (x1 (ix3 b r 0)) (x1 (ix3 b r 1)) (x1 (ix3 b r 2)) (x1 (ix3 b r 3)) (x1 (ix3 b r 4)) (coord ((b.val * 2304 + n.val) % 96)) (coord ((b.val * 2304 + n.val) / 96))) 0)) := by
    rw [val_main_v57_apply, val_main_v55_apply, val_main_v53_apply, val_main_v51_apply, v49_at, val_main_v54_apply, val_main_v52_apply,
      spread_row (idx_main_v52 _) b r rfl rfl, val_main_v50_apply, val_main_v56_apply]
    generalize val_main_v17 (F := Ideal) x0 x1 (ix2 b r) = o
    show min (Ideal.ofBits .f32 0x3F7D70A4#32) (o * Ideal.exp (min (power _ _ _ _ _ _ _) (Ideal.ofBits .f32 0x00000000#32))) = _
    rw [zero_word]
  rw [val_main_v60_apply, val_main_v59_apply, select_lt, e57, val_main_v58_apply, val_main_call1_v1_apply]
  generalize val_main_v17 (F := Ideal) x0 x1 (ix2 b r) = o
  show (if _ < cMin then Ideal.ofBits .f32 0x00000000#32 else _) = _
  rw [zero_word]
  rfl

/-- The logarithm of what a row lets through. -/
theorem v62_at : val_main_v62 (F := Ideal) x0 x1 (ix3 b r n) = Ideal.log (1 - val_main_v60 (F := Ideal) x0 x1 (ix3 b r n)) := by
  rw [val_main_v62_apply, val_main_v61_apply, sub_eq_add_neg]
  rfl

end Cert.Composite.Ref

end
-- ==== Proof.Prefix.lean ====
module

public import proofs.«01_k».proof.Proof.Math
public import Idealize.ShloMosaic.Lib.ValueIdx

/-! # Running sums along the middle axis

A window as long as the axis, padded below by one less than that, adds up the entries up to and with its own. -/

@[expose] public section

noncomputable section

namespace Cert.Composite

open Idealize.ShloMosaic Idealize.ShloMosaic.ValueIdx

theorem foldl_plus {ι : Type} (g : ι → EReal) (l : List ι) (v : EReal) : l.foldl (fun r k => r + g k) v = v + (l.map g).sum := by
  induction l generalizing v with
  | nil => simp
  | cons a l ih => rw [List.foldl_cons, ih, List.map_cons, List.sum_cons, add_assoc]

theorem sum_shift (M r : ℕ) (hr : r ≤ M) (f : ℕ → EReal) :
    ∑ k ∈ Finset.range (M + 1), (if M ≤ r + k then f (r + k - M) else 0) = ∑ i ∈ Finset.range (r + 1), f i := by
  have e : M + 1 = (M - r) + (r + 1) := by omega
  rw [e, Finset.sum_range_add, Finset.sum_eq_zero fun k hk => if_neg (by have := Finset.mem_range.1 hk; omega), zero_add]
  refine Finset.sum_congr rfl fun i _ => ?_
  rw [if_pos (by omega), show r + (M - r + i) - M = i by omega]

theorem window_entry {A B M : ℕ} (x : (⟨3, ![A, M + 1, B]⟩ : Shape).Idx → EReal) (f : ℕ → EReal) (a : Fin A) (r : Fin (M + 1)) (b : Fin B)
    (hf : ∀ i : Fin (M + 1), x (ix3 a i b) = f i.val) (w : (⟨3, ![1, M + 1, 1]⟩ : Shape).Idx) (p : Fin 3 → ℕ)
    (hp : ∀ i, p i = (ix3 a r b i).val * (![1, 1, 1] : Fin 3 → ℕ) i + (w i).val) :
    (if hin : ∀ i : Fin 3, (![0, M, 0] : Fin 3 → ℕ) i ≤ p i ∧ p i - (![0, M, 0] : Fin 3 → ℕ) i < (![A, M + 1, B] : Fin 3 → ℕ) i
      then x (fun i => ⟨p i - (![0, M, 0] : Fin 3 → ℕ) i, (hin i).2⟩) else 0)
      = if M ≤ r.val + (w 1).val then f (r.val + (w 1).val - M) else 0 := by
  have w0 : (w 0).val = 0 := Nat.lt_one_iff.1 (w 0).isLt
  have w2 : (w 2).val = 0 := Nat.lt_one_iff.1 (w 2).isLt
  have p0 : p 0 = a.val := (hp 0).trans (by show a.val * 1 + (w 0).val = _; rw [w0]; omega)
  have p1 : p 1 = r.val + (w 1).val := (hp 1).trans (by show r.val * 1 + (w 1).val = _; omega)
  have p2 : p 2 = b.val := (hp 2).trans (by show b.val * 1 + (w 2).val = _; rw [w2]; omega)
  have hw : (w 1).val < M + 1 := (w 1).isLt
  by_cases h : M ≤ r.val + (w 1).val
  · have hin : ∀ i : Fin 3, (![0, M, 0] : Fin 3 → ℕ) i ≤ p i ∧ p i - (![0, M, 0] : Fin 3 → ℕ) i < (![A, M + 1, B] : Fin 3 → ℕ) i := by
      intro i
      match i with
      | ⟨0, _⟩ => show 0 ≤ p 0 ∧ p 0 - 0 < A; rw [p0]; have := a.isLt; omega
      | ⟨1, _⟩ => show M ≤ p 1 ∧ p 1 - M < M + 1; rw [p1]; have := r.isLt; omega
      | ⟨2, _⟩ => show 0 ≤ p 2 ∧ p 2 - 0 < B; rw [p2]; have := b.isLt; omega
    rw [dif_pos hin, if_pos h, ← hf ⟨r.val + (w 1).val - M, by have := r.isLt; omega⟩]
    refine congrArg x (funext fun i => Fin.ext ?_)
    match i with
    | ⟨0, _⟩ => show p 0 - 0 = a.val; rw [p0]; omega
    | ⟨1, _⟩ => show p 1 - M = r.val + (w 1).val - M; rw [p1]
    | ⟨2, _⟩ => show p 2 - 0 = b.val; rw [p2]; omega
  · rw [if_neg h, dif_neg fun hin => h ?_]
    have := (hin 1).1
    change M ≤ p 1 at this
    rwa [p1] at this

/-- An entry of the running sum. -/
theorem running {A B M : ℕ} (x : (⟨3, ![A, M + 1, B]⟩ : Shape).Idx → EReal) (f : ℕ → EReal)
    (h : (⟨3, ![A, M + 1, B]⟩ : Shape).ReduceWindows (![1, M + 1, 1] : Fin 3 → ℕ) ![1, 1, 1] ![0, M, 0] ![0, 0, 0] ⟨3, ![A, M + 1, B]⟩)
    (a : Fin A) (r : Fin (M + 1)) (b : Fin B) (hf : ∀ i : Fin (M + 1), x (ix3 a i b) = f i.val) :
    Ideal.hostReduceWindowAdd (s := ⟨3, ![A, M + 1, B]⟩) ![1, M + 1, 1] ![1, 1, 1] ![0, M, 0] ![0, 0, 0] h x 0 (ix3 a r b) = lsum f (r.val + 1) := by
  unfold Ideal.hostReduceWindowAdd Host.reduceWindow
  dsimp only
  refine (foldl_plus _ _ _).trans ?_
  rw [zero_add, ← Fin.sum_univ_def]
  refine (Finset.sum_congr rfl fun n _ => window_entry x f a r b hf ((⟨3, ![1, M + 1, 1]⟩ : Shape).rowMajor.symm n) _ fun i => rfl).trans ?_
  rw [Equiv.sum_comp (⟨3, ![1, M + 1, 1]⟩ : Shape).rowMajor.symm fun w => if M ≤ r.val + (w 1).val then f (r.val + (w 1).val - M) else 0]
  let e : (⟨3, ![1, M + 1, 1]⟩ : Shape).Idx ≃ Fin (M + 1) :=
    ⟨fun w => w 1, fun k => ix3 0 k 0, fun w => by
      funext i
      match i with
      | ⟨0, _⟩ => exact Subsingleton.elim (α := Fin 1) _ _
      | ⟨1, _⟩ => rfl
      | ⟨2, _⟩ => exact Subsingleton.elim (α := Fin 1) _ _, fun k => rfl⟩
  refine (Fintype.sum_equiv e _ (fun k : Fin (M + 1) => if M ≤ r.val + k.val then f (r.val + k.val - M) else 0) fun w => rfl).trans ?_
  rw [Fin.sum_univ_eq_sum_range (fun k => if M ≤ r.val + k then f (r.val + k - M) else 0) (M + 1)]
  exact sum_shift M r.val (Nat.lt_succ_iff.1 r.isLt) f

end Cert.Composite

end
-- ==== Proof.RefImage.lean ====
module

public import proofs.«01_k».proof.Proof.RefAlpha
public import proofs.«01_k».proof.Proof.Prefix

/-! # The image of the reference -/

@[expose] public section

noncomputable section

namespace Cert.Composite.Ref

open Idealize.ShloMosaic Idealize.ShloMosaic.ValueIdx
open Cert.ReferenceIdeal Cert.ReferenceIdeal.Gen Cert.ReferenceIdeal.Read

variable (x0 : (⟨S4, .i32⟩ : BufTy).Contents (Elt Ideal)) (x1 : (⟨S4x2304x16, .f32⟩ : BufTy).Contents (Elt Ideal)) (x2 : (⟨S3x1, .f32⟩ : BufTy).Contents (Elt Ideal))

/-- The opacity of row `r` of band `b`'s list at the band's pixel `n`. -/
def refA (b : Fin 4) (n : Fin 2304) (r : ℕ) : EReal := val_main_v60 (F := Ideal) x0 x1 (ix3 b (row r) n)

/-- The logarithm of what the row lets through. -/
def refL (b : Fin 4) (n : Fin 2304) (r : ℕ) : EReal := Ideal.log (1 - refA x0 x1 b n r)

/-- The row's colour. -/
def refG (b : Fin 4) (c : Fin 3) (r : ℕ) : EReal := x1 (ix3 b (row r) ⟨6 + c.val, by omega⟩)

theorem row_self (i : Fin 2304) : row i.val = i := Fin.ext (Nat.mod_eq_of_lt i.isLt)

theorem refL_real (b : Fin 4) (n : Fin 2304) (r : ℕ) : ∃ l : ℝ, refL x0 x1 b n r = l := by
  unfold refL refA
  rw [v60_at]
  exact log_real _ _

theorem v62_row (b : Fin 4) (r n : Fin 2304) : val_main_v62 (F := Ideal) x0 x1 (ix3 b r n) = refL x0 x1 b n r.val := by
  rw [v62_at]
  unfold refL refA
  rw [row_self]

/-- The running sum of the logarithms. -/
theorem v63_at (b : Fin 4) (r n : Fin 2304) : val_main_v63 (F := Ideal) x0 x1 (ix3 b r n) = lsum (refL x0 x1 b n) (r.val + 1) := by
  have hv : val_main_call2_call0_v0 (F := Ideal) (Shape.Idx.first h_S_) = 0 := by
    rw [val_main_call2_call0_v0_apply, val_main_call2_call0_cst_apply]
    exact zero_word
  have hx := v62_row x0 x1 b
  unfold val_main_v63 Host.reduceWindowAdd
  generalize val_main_v62 (F := Ideal) x0 x1 = X at hx
  rw [hv]
  exact running (M := 2303) X (refL x0 x1 b n) _ b r n fun i => hx i n

/-- A row's weight at a pixel. -/
theorem v66_at (b : Fin 4) (r n : Fin 2304) : val_main_v66 (F := Ideal) x0 x1 (ix3 b r n) = refA x0 x1 b n r.val * Ideal.exp (lsum (refL x0 x1 b n) r.val) := by
  rw [val_main_v66_apply, val_main_v65_apply, val_main_v64_apply, v63_at, v62_row]
  have e : val_main_v60 (F := Ideal) x0 x1 (ix3 b r n) = refA x0 x1 b n r.val := by unfold refA; rw [row_self]
  rw [e]
  show refA x0 x1 b n r.val * Ideal.exp (lsum (refL x0 x1 b n) (r.val + 1) - refL x0 x1 b n r.val) = _
  rw [lsum_succ_sub _ (refL_real x0 x1 b n)]

theorem v67_at (b : Fin 4) (n : Fin 2304) (c : Fin 3) :
    val_main_v67 (F := Ideal) x0 x1 (ix3 b n c) = csum (refA x0 x1 b n) (refL x0 x1 b n) (refG x1 b c) 2304 := by
  rw [val_main_v67_apply]
  unfold csum
  rw [← Fin.sum_univ_eq_sum_range (fun i => refG x1 b c i * (refA x0 x1 b n i * Ideal.exp (lsum (refL x0 x1 b n) i))) 2304]
  refine Finset.sum_congr rfl fun k _ => ?_
  have el : lidx_main_v67 (ix3 b n c) k = ix3 b k n := funext fun a => match a with | ⟨0, _⟩ => rfl | ⟨1, _⟩ => rfl | ⟨2, _⟩ => rfl
  have er : ridx_main_v67 (ix3 b n c) k = ix3 b k c := funext fun a => match a with | ⟨0, _⟩ => rfl | ⟨1, _⟩ => rfl | ⟨2, _⟩ => rfl
  rw [el, er, v66_at, v10_at, mul_comm]
  unfold refG
  rw [row_self]

/-- A pixel of the reference's image: band `b`, pixel `n` of the band. -/
theorem v77_at (c : Fin 3) (b : Fin 4) (n : Fin 2304) :
    val_main_v77 (F := Ideal) x0 x1 x2 (ix3 c b n) = pixel (refA x0 x1 b n) (refL x0 x1 b n) (refG x1 b c) (x2 (ix2 c 0)) 2304 := by
  have e68 : idx_main_v68 (ix3 c b n) = ix3 b n c := funext fun a => match a with | ⟨0, _⟩ => rfl | ⟨1, _⟩ => rfl | ⟨2, _⟩ => rfl
  have e73 : idx_main_v73 (idx_main_v75 (ix3 c b n)) = ix2 b n := funext fun a => match a with | ⟨0, _⟩ => rfl | ⟨1, _⟩ => rfl
  have e72 : idx_main_v72 (idx_main_v74 (ix3 c b n)) = ix2 c 0 := funext fun a => match a with | ⟨0, _⟩ => rfl | ⟨1, _⟩ => rfl
  have e69 : idx_main_v69 (idx_main_v70 (ix2 b n)) = ix3 b ⟨2303, by decide⟩ n := by
    have := n.isLt
    funext a
    refine Fin.ext ?_
    match a with
    | ⟨0, _⟩ => show (b.val * 2304 + n.val) / 2304 = b.val; omega
    | ⟨1, _⟩ => rfl
    | ⟨2, _⟩ => show (b.val * 2304 + n.val) % 2304 = n.val; omega
  rw [val_main_v77_apply, val_main_v68_apply, e68, v67_at, val_main_v76_apply, val_main_v74_apply, val_main_v72_apply, e72,
    val_main_v75_apply, val_main_v73_apply, e73, val_main_v71_apply, val_main_v70_apply, val_main_v69_apply, e69, v63_at]
  rfl

/-- A pixel of the reference's image, by its place in the whole image. -/
theorem v78_at (c : Fin 3) (q : Fin 9216) :
    val_main_v78 (F := Ideal) x0 x1 x2 (ix2 c q)
      = pixel (refA x0 x1 ⟨q.val / 2304, by omega⟩ ⟨q.val % 2304, by omega⟩) (refL x0 x1 ⟨q.val / 2304, by omega⟩ ⟨q.val % 2304, by omega⟩)
          (refG x1 ⟨q.val / 2304, by omega⟩ c) (x2 (ix2 c 0)) 2304 := by
  have e : idx_main_v78 (ix2 c q) = ix3 c ⟨q.val / 2304, by omega⟩ ⟨q.val % 2304, by omega⟩ := by
    have := c.isLt
    have := q.isLt
    funext a
    refine Fin.ext ?_
    match a with
    | ⟨0, _⟩ => show (c.val * 9216 + q.val) / 9216 = c.val; omega
    | ⟨1, _⟩ => show (c.val * 9216 + q.val) / 2304 % 4 = q.val / 2304; omega
    | ⟨2, _⟩ => show (c.val * 9216 + q.val) % 2304 = q.val % 2304; omega
  rw [val_main_v78_apply, e, v77_at]

end Cert.Composite.Ref

end
-- ==== Proof.Equal.lean ====
module

public import proofs.«01_k».proof.Proof.Out
public import proofs.«01_k».proof.Proof.Rows
public import proofs.«01_k».proof.Proof.RefImage

/-! # The two images are equal

The reference composites all 2304 rows of a list with the opacities set to zero from the count on. The rows the
launch visits have the same opacities, by `row_cases`; the others are zero in the reference, and change nothing. -/

@[expose] public section

noncomputable section

namespace Cert.Composite

open Idealize.ShloMosaic Idealize.ShloMosaic.ValueIdx

theorem lsum_congr (L L' : ℕ → EReal) (k : ℕ) (h : ∀ r, r < k → L r = L' r) : lsum L k = lsum L' k :=
  Finset.sum_congr rfl fun i hi => h i (Finset.mem_range.1 hi)

/-- A pixel depends on the first `k` opacities only. -/
theorem pixel_congr (A A' G : ℕ → EReal) (bg : EReal) (k : ℕ) (h : ∀ r, r < k → A r = A' r) :
    pixel A (fun r => Ideal.log (1 - A r)) G bg k = pixel A' (fun r => Ideal.log (1 - A' r)) G bg k := by
  have hl : ∀ i, i ≤ k → lsum (fun r => Ideal.log (1 - A r)) i = lsum (fun r => Ideal.log (1 - A' r)) i := fun i hi =>
    lsum_congr _ _ i fun r hr => by rw [h r (lt_of_lt_of_le hr hi)]
  unfold pixel
  rw [hl k le_rfl]
  refine congrArg (· + _) (Finset.sum_congr rfl fun i hi => ?_)
  have hi := Finset.mem_range.1 hi
  rw [h i hi, hl i hi.le]

/-- Rows of opacity zero after the first `k` change no pixel. -/
theorem pixel_stop (A A' G : ℕ → EReal) (bg : EReal) (k n : ℕ) (hk : k ≤ n) (h : ∀ r, r < k → A r = A' r) (h0 : ∀ r, k ≤ r → r < n → A' r = 0) :
    pixel A' (fun r => Ideal.log (1 - A' r)) G bg n = pixel A (fun r => Ideal.log (1 - A r)) G bg k := by
  let B : ℕ → EReal := fun r => if r < k then A r else 0
  rw [pixel_congr A' B G bg n fun r hr => by
    by_cases hrk : r < k
    · show A' r = if r < k then A r else 0; rw [if_pos hrk, h r hrk]
    · show A' r = if r < k then A r else 0; rw [if_neg hrk, h0 r (not_lt.1 hrk) hr]]
  rw [pixel_congr A B G bg k fun r hr => (if_pos hr).symm]
  have e := sums_stop B G k (fun r hr => if_neg (not_lt.2 hr)) n hk
  unfold pixel
  rw [e.1, e.2]

variable (x0 : IVec Cert.Pre_lists_fit.S4 32) (x1 : FVec Ideal Cert.Pre_lists_fit.S4x2304x16 .f32) (x2 : FVec Ideal Cert.Pre_lists_fit.S3x1 .f32)
  (h : Cert.Pre_lists_fit.fn (F := Ideal) x0 x1 x2 = fun _ => 1#1)

include h in
/-- The opacities of the rows the launch visits are the reference's. -/
theorem opac_eq (b : Fin 4) (n : Fin 2304) (r : ℕ) (hr : r < 256 * (((x0 (ix1 b)).toNat + 255) / 256)) :
    opac (band x1 b) (coord ((b.val * 2304 + n.val) % 96)) (coord ((b.val * 2304 + n.val) / 96)) r = Ref.refA x0 x1 b n r := by
  have hc := count_le x0 x1 x2 h (ix1 b)
  have hr' : r < 2304 := by omega
  have e : (if (row r).val < (x0 (ix1 b)).toNat then x1 (ix3 b (row r) 5) else 0) = x1 (ix3 b (row r) 5) := by
    by_cases hlt : (row r).val < (x0 (ix1 b)).toNat
    · exact if_pos hlt
    · rw [if_neg hlt]
      rw [row_val r hr'] at hlt
      have ei : (⟨256 * (r / 256) + r % 256, by omega⟩ : Fin 2304) = row r := Fin.ext (by rw [row_val r hr']; show 256 * (r / 256) + r % 256 = r; omega)
      rcases row_cases x0 x1 x2 h b ⟨r / 256, by omega⟩ ⟨r % 256, by omega⟩ with c | c | c
      · exact absurd (show r < _ by change 256 * (r / 256) + r % 256 < _ at c; omega) hlt
      · change _ ≤ 256 * (r / 256) at c; omega
      · rw [← ei]; exact c.symm
  unfold Ref.refA
  rw [Ref.v60_at, Ref.v17_at x0 x1 b (row r) hc, e]
  rfl

include h in
/-- The reference's opacities are zero from the last visited chunk on. -/
theorem opac_zero (b : Fin 4) (n : Fin 2304) (r : ℕ) (hk : 256 * (((x0 (ix1 b)).toNat + 255) / 256) ≤ r) (hr : r < 2304) : Ref.refA x0 x1 b n r = 0 := by
  have hc := count_le x0 x1 x2 h (ix1 b)
  unfold Ref.refA
  rw [Ref.v60_at, Ref.v17_at x0 x1 b (row r) hc, if_neg (by rw [row_val r hr]; omega), alphaOf_zero]

include h in
/-- The reference's image is the launch's. -/
theorem image_eq (j : Cert.ReferenceIdeal.S3x9216.Idx) :
    Cert.ReferenceIdeal.Read.val_main_v78 (F := Ideal) x0 x1 x2 j = image x0 x1 x2 (j 0) (j 1) := by
  obtain ⟨c, q, rfl⟩ : ∃ (c : Fin 3) (q : Fin 9216), j = ix2 c q := ⟨j 0, j 1, eq_ix2 j⟩
  show _ = image x0 x1 x2 c q
  have hc := count_le x0 x1 x2 h (ix1 (bandAt q))
  have eq : (bandAt q).val * 2304 + q.val % 2304 = q.val := by show q.val / 2304 * 2304 + q.val % 2304 = q.val; omega
  have hA := opac_eq x0 x1 x2 h (bandAt q) ⟨q.val % 2304, by omega⟩
  have h0 := opac_zero x0 x1 x2 h (bandAt q) ⟨q.val % 2304, by omega⟩
  rw [Ref.v78_at]
  dsimp only at hA
  rw [eq] at hA
  exact pixel_stop _ _ _ _ _ 2304 (by omega) hA h0

end Cert.Composite

end
-- ==== Proof.ListsIdeal.lean ====
module

public import proofs.«01_k».proof.Proof.Gen.Kernel2Ideal.Frame

@[expose] public section

noncomputable section

/-!
The preprocessing call at any floats: its body, run on the staging buffers, leaves the inputs as they were, so the call
leaves its argument arrays as they were. Nothing is said of what it leaves in its two results.
-/

namespace Cert.Kernel2Ideal.Lists

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The contents of core `c`'s buffer under `M`. -/
abbrev Held (c : Dev nD) {sp : Space} {S : Shape} {e : EltTy} (M : Memref sig .tc sp S e) : Type := Buf (Elt F) (M.view.loc (c : Thread nD τ))

/-- Core `c` holds the buffer under `M` whole, at `f`. -/
abbrev holds (c : Dev nD) {sp : Space} {S : Shape} {e : EltTy} (M : Memref sig .tc sp S e) (f : Held (F := F) c M) : sProp 𝕄 :=
  M.view.loc (c : Thread nD τ) ↦{fullShare} f

set_option maxHeartbeats 0 in
/-- What the body leaves in its two result buffers, and that it leaves that there and the inputs as they were. -/
noncomputable def body (c : Dev nD) (M0 : Memref sig .tc .vmem S3x2048 .f32) (h0 : M0.IsWhole) (M1 : Memref sig .tc .vmem S48x2048 .f32) (h1 : M1.IsWhole)
    (M2 : Memref sig .tc .vmem S1x2048 .f32) (h2 : M2.IsWhole) (M3 : Memref sig .tc .vmem S3x2048 .f32) (h3 : M3.IsWhole)
    (M4 : Memref sig .tc .vmem S4x2048 .f32) (h4 : M4.IsWhole) (M5 : Memref sig .tc .vmem S4x4 .f32) (h5 : M5.IsWhole)
    (M6 : Memref sig .tc .vmem S4x4 .f32) (h6 : M6.IsWhole) (M7 : Memref sig .tc .vmem S1x3 .f32) (h7 : M7.IsWhole)
    (M8 : Memref sig .tc .vmem S4x2304x16 .f32) (h8 : M8.IsWhole) (M9 : Memref sig .tc .vmem S1x4 .i32) (h9 : M9.IsWhole)
    (f0 : Held (F := F) c M0) (f1 : Held (F := F) c M1) (f2 : Held (F := F) c M2) (f3 : Held (F := F) c M3) (f4 : Held (F := F) c M4)
    (f5 : Held (F := F) c M5) (f6 : Held (F := F) c M6) (f7 : Held (F := F) c M7) (f8 : Held (F := F) c M8) (f9 : Held (F := F) c M9) :
    { W : Held (F := F) c M8 × Held (F := F) c M9 // ∀ (E : Set ℕ) (Q : PUnit → sProp 𝕄),
        iprop(holds c M0 f0 ∗ holds c M1 f1 ∗ holds c M2 f2 ∗ holds c M3 f3 ∗ holds c M4 f4 ∗ holds c M5 f5 ∗ holds c M6 f6 ∗ holds c M7 f7
          ∗ holds c M8 f8 ∗ holds c M9 f9
          ∗ (iprop(holds c M0 f0 ∗ holds c M1 f1 ∗ holds c M2 f2 ∗ holds c M3 f3 ∗ holds c M4 f4 ∗ holds c M5 f5 ∗ holds c M6 f6 ∗ holds c M7 f7
              ∗ holds c M8 W.1 ∗ holds c M9 W.2) -∗ Q ⟨⟩))
          ⊢ wp frame (wpE (defs₀ (F := F)) Variants.none c none) E (cc0__preprocess_kernel M0 h0 M1 h1 M2 h2 M3 h3 M4 h4 M5 h5 M6 h6 M7 h7 M8 h8 M9 h9) Q } := by
  refine ⟨⟨?_, ?_⟩, fun E Q => ?run⟩
  case run =>
    iintro ⟨H0, H1, H2, H3, H4, H5, H6, H7, H8, H9, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

variable (m : (ℓ : Loc nD τ sig) → Buf (Elt F) ℓ) (ρ : Dev nD → PrngReg)

/-- What the body may leave (`X`) in window `w`'s buffer, which held `Y`: an input as it was, a result anything. -/
def after (w : Fin 10) : (Y X : (cfg0.win w).block.Idx → Elt F (cfg0.win w).elt) → Prop :=
  match w with
  | ⟨8, _⟩ => fun _ _ => True
  | ⟨9, _⟩ => fun _ _ => True
  | _ => fun Y X => X = Y

/-- The call's proof data: arrays as launched, nothing owed. -/
def data (c : Dev nD) : RDat τ (Elt F) Unit ℕ (UR sig nD τ) ℕ cfg0 c where
  A w := V m c (Pipeline.arrRef spec0 w)
  after w _ := after w
  Φ _ := Pipeline.ΦA spec0 c
  q _ := fullShare
  owed _ := 0

set_option maxHeartbeats 0 in
/-- The body keeps what the data says it keeps. -/
theorem body_ok (c : Dev nD) : (data m c).BodyObligation (defs₀ (F := F)) Variants.none () Set.univ := fun t Y _ => by
  obtain rfl := fin_N0 t
  rw [bigSep_W0, bigSep_W0]
  simp only [owns_whole_eq]
  rw [show (data m c).Φ t0_0.castSucc = Pipeline.ΦA spec0 c from rfl, show (data m c).Φ t0_0.succ = Pipeline.ΦA spec0 c from rfl]
  unfold RDat.owesAt Pipeline.owesWithin
  rw [show (data m c).owed t0_0.castSucc = 0 from rfl, show (data m c).owed t0_0.succ = 0 from rfl]
  generalize (Pipeline.ΦA spec0 c : sProp 𝕄) = Sr
  iintro ⟨HS, ⟨%W, %hW, HO⟩, ⟨%g0, %hg0, H0⟩, ⟨%g1, %hg1, H1⟩, ⟨%g2, %hg2, H2⟩, ⟨%g3, %hg3, H3⟩, ⟨%g4, %hg4, H4⟩, ⟨%g5, %hg5, H5⟩,
    ⟨%g6, %hg6, H6⟩, ⟨%g7, %hg7, H7⟩, ⟨%g8, %hg8, H8⟩, ⟨%g9, %hg9, H9⟩⟩
  iapply ((body c (stage0_0 0) (hstage0_0 0) (stage0_1 0) (hstage0_1 0) (stage0_2 0) (hstage0_2 0) (stage0_3 0) (hstage0_3 0)
    (stage0_4 0) (hstage0_4 0) (stage0_5 0) (hstage0_5 0) (stage0_6 0) (hstage0_6 0) (stage0_7 0) (hstage0_7 0)
    (stage0_8 0) (hstage0_8 0) (stage0_9 0) (hstage0_9 0) g0 g1 g2 g3 g4 g5 g6 g7 g8 g9).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HS]; · iexact HS
  isplitl [HO]
  · iexists W; isplitr; · ipureintro; exact fun _ _ => Or.inl trivial
    iexact HO
  isplitl [H0]
  · iexists g0; isplitr; · ipureintro; exact hg0
    iexists _; isplitr; swap; (· iexact H0); ipureintro; rfl
  isplitl [H1]
  · iexists g1; isplitr; · ipureintro; exact hg1
    iexists _; isplitr; swap; (· iexact H1); ipureintro; rfl
  isplitl [H2]
  · iexists g2; isplitr; · ipureintro; exact hg2
    iexists _; isplitr; swap; (· iexact H2); ipureintro; rfl
  isplitl [H3]
  · iexists g3; isplitr; · ipureintro; exact hg3
    iexists _; isplitr; swap; (· iexact H3); ipureintro; rfl
  isplitl [H4]
  · iexists g4; isplitr; · ipureintro; exact hg4
    iexists _; isplitr; swap; (· iexact H4); ipureintro; rfl
  isplitl [H5]
  · iexists g5; isplitr; · ipureintro; exact hg5
    iexists _; isplitr; swap; (· iexact H5); ipureintro; rfl
  isplitl [H6]
  · iexists g6; isplitr; · ipureintro; exact hg6
    iexists _; isplitr; swap; (· iexact H6); ipureintro; rfl
  isplitl [H7]
  · iexists g7; isplitr; · ipureintro; exact hg7
    iexists _; isplitr; swap; (· iexact H7); ipureintro; rfl
  isplitl [H8]
  · iexists _; isplitr; swap
    · iexists _; isplitr; swap; (· iexact H8); ipureintro; rfl
    · ipureintro; trivial
  iexists _; isplitr; swap
  · iexists _; isplitr; swap; (· iexact H9); ipureintro; rfl
  · ipureintro; trivial

set_option backward.isDefEq.respectTransparency.types false in
/-- The call runs to the end, every array at something the data allows and every counter at zero. -/
theorem run : θ_run defs (onTc (τ := τ) (main (F := F))) (s₀ m ρ)
    (fun r => Pipeline.RDat.FramePost cfg0 (data m) (V m) r ∧ r.2.sem = fun _ => 0) :=
  Pipeline.RDat.θ_run_frame (Q' := _) cfgs (0 : Fin 1) launch0 defs₀ Variants.none (data m) m ρ main
    (hbody := body_ok m) (hshare := fun c w => by unfold RDat.share; split <;> rfl)
    (howed := fun _ _ => rfl) (V := V m) (hmain := hmain m Variants.none) (hA := fun _ _ => rfl) (hΦ := fun _ _ => rfl)

/-- The call runs to the end, its argument arrays as launched and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨h.1.arr_in c 0 rfl, h.1.arr_in c 1 rfl, h.1.arr_in c 2 rfl, h.1.arr_in c 3 rfl,
    h.1.arr_in c 4 rfl, h.1.arr_in c 5 rfl, h.1.arr_in c 6 rfl, h.1.arr_in c 7 rfl⟩, h.2⟩) (run m ρ)

end Cert.Kernel2Ideal.Lists

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_lists_fit
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Frame
public import proofs.«01_k».proof.Proof.Pre
public import proofs.«01_k».proof.Proof.Final
public import proofs.«01_k».proof.Proof.Equal
public import proofs.«01_k».proof.Proof.Lists
public import proofs.«01_k».proof.Proof.ListsIdeal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- At the machine's floats the kernel runs to the end and leaves its arguments as they were. -/
theorem frame_p : Cert.quiescent_Kernel := fun m ρ h =>
  Cert.Kernel.Gen.frame m ρ (Cert.Kernel.Gen.ok m) (Cert.Kernel.Gen.hyps_of_le m fun c b => Cert.Composite.count_le _ _ _ (h c) b)

/-- Over the extended reals the kernel runs to the end and leaves its arguments as they were. -/
theorem frame_pi : Cert.quiescent_KernelIdeal := fun m ρ h =>
  Cert.KernelIdeal.Gen.frame m ρ (Cert.KernelIdeal.Gen.ok m) (Cert.KernelIdeal.Gen.hyps_of_le m fun c b => Cert.Composite.count_le _ _ _ (h c) b)

/-- The reference runs to the end and leaves its arguments as they were. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The launch leaves the image in the result array, and its arguments as they were. -/
theorem kernel_image (m : (ℓ : Loc Cert.KernelIdeal.nD Cert.KernelIdeal.τ Cert.KernelIdeal.sig) → Buf (Elt Ideal) ℓ) (ρ : Dev Cert.KernelIdeal.nD → PrngReg)
    (h : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0) = Cert.Composite.imageBuf m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  have hc : ∀ (c : Dev Cert.KernelIdeal.nD) b, (m ((c.tc : Thread Cert.KernelIdeal.nD Cert.KernelIdeal.τ).loc Cert.KernelIdeal.main_arg0) b).toNat ≤ 2304 :=
    fun c b => Cert.Composite.count_le _ _ _ (h c) b
  have hO := Cert.KernelIdeal.Gen.ok m
  have hH := Cert.KernelIdeal.Gen.hyps_of_le m hc
  exact (θ_run Cert.KernelIdeal.defs _ _).mono
    (fun r hr c => ⟨((hr.1 c).1 2).trans (Cert.Composite.final m hO hc hH c), hr.2 c⟩)
    (θ_run_and (Cert.KernelIdeal.Gen.run_main m ρ hO hH) (Cert.KernelIdeal.Gen.unchanged m ρ hO hH))

/-- Over the extended reals the launch and the reference end with the same image. -/
theorem images : Cert.algebraic_KernelIdeal_ReferenceIdeal := fun m g m' g' h hm =>
  ⟨fun c => Cert.Composite.imageBuf m c, kernel_image m g h,
    (θ_run Cert.ReferenceIdeal.defs _ _).mono
      (fun r hr c => ⟨(hr c).1.trans (by
        rw [Cert.ReferenceIdeal.Read.val_main_v78_eq, (hm c).1, (hm c).2.1, (hm c).2.2]
        exact funext fun j => Cert.Composite.image_eq _ _ _ (h c) j), (hr c).2⟩)
      (Cert.ReferenceIdeal.Value.run (F := Ideal) m' g')⟩

/-- At the machine's floats the preprocessing call runs to the end and leaves its arguments as they were. -/
theorem frame_p2 : Cert.quiescent_Kernel2 := fun m ρ _ => Cert.Kernel2.Lists.unchanged m ρ

/-- Over the extended reals the preprocessing call runs to the end and leaves its arguments as they were. -/
theorem frame_pi2 : Cert.quiescent_Kernel2Ideal := fun m ρ _ => Cert.Kernel2Ideal.Lists.unchanged m ρ

/-- The certificate's claims. -/
theorem claim : Cert.Claim := ⟨Cert.Kernel.Gen.facts, Cert.KernelIdeal.Gen.facts, Cert.ReferenceIdeal.Gen.facts, Cert.Kernel2.Gen.facts,
  Cert.Kernel2Ideal.Gen.facts, Cert.Pre_lists_fit.Gen.facts, frame_p, frame_pi, frame_ri, fun m ρ _ => frame_ri m ρ trivial,
  frame_p2, frame_pi2, trivial, trivial, images⟩

end Cert.Proof

end
